-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_values) = v2 c
          ∧ r.2.mem ((c.tc : Thread Cert.ReferenceIdeal.nD Cert.ReferenceIdeal.τ).loc Cert.ReferenceIdeal.main_v60) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S16x4096x8 : Shape := ⟨3, ![16, 4096, 8]⟩
abbrev S16 : Shape := ⟨1, ![16]⟩
abbrev S8x64 : Shape := ⟨2, ![8, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S192x8 : Shape := ⟨2, ![192, 8]⟩
abbrev S8 : Shape := ⟨1, ![8]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x4096x8 .f32) (main_arg1 : IVec S16 32) (main_arg2 : FVec F S8x64 .f32) (main_arg3 : FVec F S64 .f32) (main_arg4 : FVec F S64x64 .f32) (main_arg5 : FVec F S64 .f32) (main_arg6 : FVec F S64x128 .f32) (main_arg7 : FVec F S128 .f32) (main_arg8 : FVec F S192x8 .f32) (main_arg9 : FVec F S8 .f32) : IVec S16 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 4096#32
  let main_v2 : IVec S16 32 := broadcastInDim S16 ![] bcast_S_S16 main_c_0
  let main_v3 : IVec S16 1 := cmpi .sle main_arg1 main_v2
  let main_v4 : IVec S16 1 := andi main_v1 main_v3
  main_v4
-- ==== Kernel.lean ====
abbrev S16x4096x8 : Shape := ⟨3, ![16, 4096, 8]⟩
abbrev S16 : Shape := ⟨1, ![16]⟩
abbrev S8x64 : Shape := ⟨2, ![8, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S192x8 : Shape := ⟨2, ![192, 8]⟩
abbrev S8 : Shape := ⟨1, ![8]⟩
abbrev S16x8x4096 : Shape := ⟨3, ![16, 8, 4096]⟩
abbrev S128x4096 : Shape := ⟨2, ![128, 4096]⟩
abbrev S1x64 : Shape := ⟨2, ![1, 64]⟩
abbrev S1x128 : Shape := ⟨2, ![1, 128]⟩
abbrev S1x8 : Shape := ⟨2, ![1, 8]⟩
abbrev S16x1x4096 : Shape := ⟨3, ![16, 1, 4096]⟩
abbrev S16x192x4096 : Shape := ⟨3, ![16, 192, 4096]⟩
abbrev S1x8x4096 : Shape := ⟨3, ![1, 8, 4096]⟩
abbrev S1x1x4096 : Shape := ⟨3, ![1, 1, 4096]⟩
abbrev S1x192x4096 : Shape := ⟨3, ![1, 192, 4096]⟩
abbrev S8x2 : Shape := ⟨2, ![8, 2]⟩
abbrev S1x4096 : Shape := ⟨2, ![1, 4096]⟩
abbrev S128x1 : Shape := ⟨2, ![128, 1]⟩
abbrev S1 : Shape := ⟨1, ![1]⟩
abbrev S128x2 : Shape := ⟨2, ![128, 2]⟩
abbrev S8x1 : Shape := ⟨2, ![8, 1]⟩
abbrev S8x4096 : Shape := ⟨2, ![8, 4096]⟩
abbrev S64x4096 : Shape := ⟨2, ![64, 4096]⟩
abbrev S64x1 : Shape := ⟨2, ![64, 1]⟩
abbrev S192x4096 : Shape := ⟨2, ![192, 4096]⟩
abbrev S4096 : Shape := ⟨1, ![4096]⟩
abbrev S16x4096x1 : Shape := ⟨3, ![16, 4096, 1]⟩
abbrev S16x4096x192 : Shape := ⟨3, ![16, 4096, 192]⟩

abbrev nBuf : Space → Nat
  | .hbm => 23
  | .vmem => 18
  | .smem => 1
  | _ => 0

abbrev bufTy : (tb : Table) → Fin (tcTables nBuf tb) → BufTy
  | .hbm, ⟨0, _⟩ => ⟨S16x4096x8, .f32⟩
  | .hbm, ⟨1, _⟩ => ⟨S8x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S192x8, .f32⟩
  | .hbm, ⟨8, _⟩ => ⟨S8, .f32⟩
  | .hbm, ⟨9, _⟩ => ⟨S16x8x4096, .f32⟩
  | .hbm, ⟨10, _⟩ => ⟨S128x4096, .f32⟩
  | .hbm, ⟨11, _⟩ => ⟨S1x64, .f32⟩
  | .hbm, ⟨12, _⟩ => ⟨S1x64, .f32⟩
  | .hbm, ⟨13, _⟩ => ⟨S1x128, .f32⟩
  | .hbm, ⟨14, _⟩ => ⟨S1x8, .f32⟩
  | .hbm, ⟨15, _⟩ => ⟨S16x8x4096, .f32⟩
  | .hbm, ⟨16, _⟩ => ⟨S16x1x4096, .i32⟩
  | .hbm, ⟨17, _⟩ => ⟨S16x1x4096, .f32⟩
  | .hbm, ⟨18, _⟩ => ⟨S16x192x4096, .f32⟩
  | .hbm, ⟨19, _⟩ => ⟨S16x4096x8, .f32⟩
  | .hbm, ⟨20, _⟩ => ⟨S16x4096x1, .i32⟩
  | .hbm, ⟨21, _⟩ => ⟨S16x4096x1, .f32⟩
  | .hbm, ⟨22, _⟩ => ⟨S16x4096x192, .f32⟩
  | .local _ .vmem, ⟨0, _⟩ => ⟨S128x4096, .f32⟩
  | .local _ .vmem, ⟨1, _⟩ => ⟨S8x64, .f32⟩
  | .local _ .vmem, ⟨2, _⟩ => ⟨S1x64, .f32⟩
  | .local _ .vmem, ⟨3, _⟩ => ⟨S64x64, .f32⟩
  | .local _ .vmem, ⟨4, _⟩ => ⟨S1x64, .f32⟩
  | .local _ .vmem, ⟨5, _⟩ => ⟨S64x128, .f32⟩
  | .local _ .vmem, ⟨6, _⟩ => ⟨S1x128, .f32⟩
  | .local _ .vmem, ⟨7, _⟩ => ⟨S192x8, .f32⟩
  | .local _ .vmem, ⟨8, _⟩ => ⟨S1x8, .f32⟩
  | .local _ .vmem, ⟨9, _⟩ => ⟨S1x8x4096, .f32⟩
  | .local _ .vmem, ⟨10, _⟩ => ⟨S1x8x4096, .f32⟩
  | .local _ .vmem, ⟨11, _⟩ => ⟨S1x1x4096, .i32⟩
  | .local _ .vmem, ⟨12, _⟩ => ⟨S1x1x4096, .i32⟩
  | .local _ .vmem, ⟨13, _⟩ => ⟨S1x1x4096, .f32⟩
  | .local _ .vmem, ⟨14, _⟩ => ⟨S1x1x4096, .f32⟩
  | .local _ .vmem, ⟨15, _⟩ => ⟨S1x192x4096, .f32⟩
  | .local _ .vmem, ⟨16, _⟩ => ⟨S1x192x4096, .f32⟩
  | .local _ .vmem, ⟨17, _⟩ => ⟨S8x2, .f32⟩
  | .local _ .smem, ⟨0, _⟩ => ⟨S16, .i32⟩
  | _, _ => ⟨S16x4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_arg1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem9_1 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_67 : BitVec 32 := 0#32
  let c16_i32 : BitVec 32 := 16#32
  let v260 : BitVec 32 := Scalar.addi c0_i32_67 c16_i32
  let c1_i32_68 : BitVec 32 := 1#32
  ⟨c0_i32_67, v260, c1_i32_68⟩
def k0_off1 (k0_t1 : Fin k0_t1_loop.trips) : Fin 1 → Nat :=
  let c0_i32_67 : BitVec 32 := 0#32
  let c1_i32_68 : BitVec 32 := 1#32
  let arg16 : BitVec 32 := Scf.iv c0_i32_67 c1_i32_68 k0_t1
  let v281 : Index := Scalar.indexCast arg16
  ![v281.toNat]
def k0_off2 (i : grid0.Coords) : Fin 1 → Nat :=
  let arg0 : BitVec 32 := BitVec.ofNat 32 (i 0).val
  let v4 : Index := Scalar.indexCast arg0
  ![v4.toNat]
def k0_off3 (i : grid0.Coords) : Fin 2 → Nat :=
  let arg0 : BitVec 32 := BitVec.ofNat 32 (i 0).val
  let c8_i32 : BitVec 32 := 8#32
  let v8 : BitVec 32 := Scalar.muli arg0 c8_i32
  let v9 : Index := Scalar.indexCast v8
  let c0 : Index := 0#32
  ![v9.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S192x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x8x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x4096 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x192x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S16x4096x8 : Shape := ⟨3, ![16, 4096, 8]⟩
abbrev S16 : Shape := ⟨1, ![16]⟩
abbrev S8x64 : Shape := ⟨2, ![8, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S192x8 : Shape := ⟨2, ![192, 8]⟩
abbrev S8 : Shape := ⟨1, ![8]⟩
abbrev S4096 : Shape := ⟨1, ![4096]⟩
abbrev S1x4096 : Shape := ⟨2, ![1, 4096]⟩
abbrev S16x1 : Shape := ⟨2, ![16, 1]⟩
abbrev S16x4096 : Shape := ⟨2, ![16, 4096]⟩
abbrev S16x4096x1 : Shape := ⟨3, ![16, 4096, 1]⟩
abbrev S_ : Shape := ⟨0, ![]⟩
abbrev S1x1x8 : Shape := ⟨3, ![1, 1, 8]⟩
abbrev S16x4096x64 : Shape := ⟨3, ![16, 4096, 64]⟩
abbrev S1x1x64 : Shape := ⟨3, ![1, 1, 64]⟩
abbrev S16x4096x128 : Shape := ⟨3, ![16, 4096, 128]⟩
abbrev S1x1x128 : Shape := ⟨3, ![1, 1, 128]⟩
abbrev S16x128 : Shape := ⟨2, ![16, 128]⟩
abbrev S16x1x128 : Shape := ⟨3, ![16, 1, 128]⟩
abbrev S16x4096x192 : Shape := ⟨3, ![16, 4096, 192]⟩

abbrev nBuf : Space → Nat
  | .hbm => 131
  | .vmem => 0
  | .smem => 0
  | _ => 0

abbrev hbmTy0_0 (i : Nat) : BufTy := match i % 128 with
  | 0 => ⟨S16x4096x8, .f32⟩
  | 1 => ⟨S16, .i32⟩
  | 2 => ⟨S8x64, .f32⟩
  | 3 => ⟨S64, .f32⟩
  | 4 => ⟨S64x64, .f32⟩
  | 5 => ⟨S64, .f32⟩
  | 6 => ⟨S64x128, .f32⟩
  | 7 => ⟨S128, .f32⟩
  | 8 => ⟨S192x8, .f32⟩
  | 9 => ⟨S8, .f32⟩
  | 10 => ⟨S4096, .i32⟩
  | 11 => ⟨S1x4096, .i32⟩
  | 12 => ⟨S16x1, .i32⟩
  | 13 => ⟨S16x4096, .i32⟩
  | 14 => ⟨S16x4096, .i32⟩
  | 15 => ⟨S16x4096, .i1⟩
  | 16 => ⟨S16x4096x1, .i1⟩
  | 17 => ⟨S16x4096x1, .f32⟩
  | 18 => ⟨S_, .f32⟩
  | 19 => ⟨S_, .f32⟩
  | 20 => ⟨S16x4096x8, .f32⟩
  | 21 => ⟨S16x4096x8, .f32⟩
  | 22 => ⟨S_, .f32⟩
  | 23 => ⟨S8, .f32⟩
  | 24 => ⟨S_, .f32⟩
  | 25 => ⟨S_, .f32⟩
  | 26 => ⟨S8, .f32⟩
  | 27 => ⟨S8, .f32⟩
  | 28 => ⟨S1x1x8, .f32⟩
  | 29 => ⟨S16x4096x8, .f32⟩
  | 30 => ⟨S16x4096x8, .f32⟩
  | 31 => ⟨S16x4096x8, .f32⟩
  | 32 => ⟨S16x4096x8, .f32⟩
  | 33 => ⟨S16x4096x8, .f32⟩
  | 34 => ⟨S_, .f32⟩
  | 35 => ⟨S8, .f32⟩
  | 36 => ⟨S_, .f32⟩
  | 37 => ⟨S_, .f32⟩
  | 38 => ⟨S8, .f32⟩
  | 39 => ⟨S8, .f32⟩
  | 40 => ⟨S1x1x8, .f32⟩
  | 41 => ⟨S16x4096x8, .f32⟩
  | 42 => ⟨S16x4096x8, .f32⟩
  | 43 => ⟨S_, .f32⟩
  | 44 => ⟨S8, .f32⟩
  | 45 => ⟨S8, .f32⟩
  | 46 => ⟨S8, .f32⟩
  | 47 => ⟨S1x1x8, .f32⟩
  | 48 => ⟨S16x4096x8, .f32⟩
  | 49 => ⟨S16x4096x8, .f32⟩
  | 50 => ⟨S16x4096x1, .i1⟩
  | 51 => ⟨S_, .f32⟩
  | 52 => ⟨S_, .f32⟩
  | 53 => ⟨S16x4096x8, .i1⟩
  | 54 => ⟨S16x4096x8, .f32⟩
  | 55 => ⟨S16x4096x8, .f32⟩
  | 56 => ⟨S16x4096x64, .f32⟩
  | 57 => ⟨S1x1x64, .f32⟩
  | 58 => ⟨S16x4096x64, .f32⟩
  | 59 => ⟨S16x4096x64, .f32⟩
  | 60 => ⟨S_, .f32⟩
  | 61 => ⟨S16x4096x64, .f32⟩
  | 62 => ⟨S16x4096x64, .f32⟩
  | 63 => ⟨S16x4096x64, .f32⟩
  | 64 => ⟨S1x1x64, .f32⟩
  | 65 => ⟨S16x4096x64, .f32⟩
  | 66 => ⟨S16x4096x64, .f32⟩
  | 67 => ⟨S_, .f32⟩
  | 68 => ⟨S16x4096x64, .f32⟩
  | 69 => ⟨S16x4096x64, .f32⟩
  | 70 => ⟨S16x4096x1, .i1⟩
  | 71 => ⟨S_, .f32⟩
  | 72 => ⟨S_, .f32⟩
  | 73 => ⟨S16x4096x64, .i1⟩
  | 74 => ⟨S16x4096x64, .f32⟩
  | 75 => ⟨S16x4096x64, .f32⟩
  | 76 => ⟨S16x4096x128, .f32⟩
  | 77 => ⟨S1x1x128, .f32⟩
  | 78 => ⟨S16x4096x128, .f32⟩
  | 79 => ⟨S16x4096x128, .f32⟩
  | 80 => ⟨S_, .f32⟩
  | 81 => ⟨S16x4096x128, .f32⟩
  | 82 => ⟨S16x4096x128, .f32⟩
  | 83 => ⟨S16x4096x1, .i1⟩
  | 84 => ⟨S_, .f32⟩
  | 85 => ⟨S_, .f32⟩
  | 86 => ⟨S16x4096x128, .i1⟩
  | 87 => ⟨S16x4096x128, .f32⟩
  | 88 => ⟨S16x4096x128, .f32⟩
  | 89 => ⟨S_, .f32⟩
  | 90 => ⟨S16x128, .f32⟩
  | 91 => ⟨S16x1x128, .f32⟩
  | 92 => ⟨S16x4096x128, .f32⟩
  | 93 => ⟨S16x4096x192, .f32⟩
  | 94 => ⟨S16x4096x1, .i1⟩
  | 95 => ⟨S_, .f32⟩
  | 96 => ⟨S_, .f32⟩
  | 97 => ⟨S16x4096x192, .i1⟩
  | 98 => ⟨S16x4096x192, .f32⟩
  | 99 => ⟨S16x4096x192, .f32⟩
  | 100 => ⟨S16x4096x8, .f32⟩
  | 101 => ⟨S1x1x8, .f32⟩
  | 102 => ⟨S16x4096x8, .f32⟩
  | 103 => ⟨S16x4096x8, .f32⟩
  | 104 => ⟨S16x4096x1, .i1⟩
  | 105 => ⟨S_, .f32⟩
  | 106 => ⟨S_, .f32⟩
  | 107 => ⟨S16x4096x8, .i1⟩
  | 108 => ⟨S16x4096x8, .f32⟩
  | 109 => ⟨S16x4096x8, .f32⟩
  | 110 => ⟨S_, .f32⟩
  | 111 => ⟨S16x4096, .f32⟩
  | 112 => ⟨S_, .f32⟩
  | 113 => ⟨S16x4096, .f32⟩
  | 114 => ⟨S16x4096, .f32⟩
  | 115 => ⟨S16x4096x1, .f32⟩
  | 116 => ⟨S16x4096x8, .f32⟩
  | 117 => ⟨S16x4096x8, .f32⟩
  | 118 => ⟨S16x4096x8, .f32⟩
  | 119 => ⟨S_, .f32⟩
  | 120 => ⟨S16x4096, .f32⟩
  | 121 => ⟨S16x4096x1, .f32⟩
  | 122 => ⟨S16x4096x8, .f32⟩
  | 123 => ⟨S16x4096x8, .f32⟩
  | 124 => ⟨S16x4096x1, .f32⟩
  | 125 => ⟨S16x4096x1, .i32⟩
  | 126 => ⟨S16x4096x1, .i1⟩
  | 127 => ⟨S_, .i32⟩
  | _ => ⟨S16x4096x8, .f32⟩

abbrev hbmTy0_1 (i : Nat) : BufTy := match i % 128 with
  | 0 => ⟨S_, .i32⟩
  | 1 => ⟨S16x4096x1, .i32⟩
  | 2 => ⟨S16x4096x1, .i32⟩
  | _ => ⟨S16x4096x8, .f32⟩

abbrev hbmTy (i : Nat) : BufTy := match i / 128 with
  | 0 => hbmTy0_0 i
  | 1 => hbmTy0_1 i
  | _ => ⟨S16x4096x8, .f32⟩

abbrev bufTy : (tb : Table) → Fin (tcTables nBuf tb) → BufTy
  | .hbm, ⟨i, _⟩ => hbmTy i
  | _, _ => ⟨S16x4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call1_cst : Ref sig .tc := ⟨.hbm, 60, rfl⟩
abbrev main_call1_v0 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_call2_cst : Ref sig .tc := ⟨.hbm, 67, rfl⟩
abbrev main_call2_v0 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_call4_cst : Ref sig .tc := ⟨.hbm, 80, rfl⟩
abbrev main_call4_v0 : Ref sig .tc := ⟨.hbm, 81, rfl⟩
abbrev main_v52 : Ref sig .tc := ⟨.hbm, 82, rfl⟩
abbrev main_v53 : Ref sig .tc := ⟨.hbm, 83, rfl⟩
abbrev main_cst_7 : Ref sig .tc := ⟨.hbm, 84, rfl⟩
abbrev main_call5_v0 : Ref sig .tc := ⟨.hbm, 85, rfl⟩
abbrev main_call5_v1 : Ref sig .tc := ⟨.hbm, 86, rfl⟩
abbrev main_call5_v2 : Ref sig .tc := ⟨.hbm, 87, rfl⟩
abbrev main_v54 : Ref sig .tc := ⟨.hbm, 88, rfl⟩
abbrev main_cst_8 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_9 : Ref sig .tc := ⟨.hbm, 95, rfl⟩
abbrev main_call6_v0 : Ref sig .tc := ⟨.hbm, 96, rfl⟩
abbrev main_call6_v1 : Ref sig .tc := ⟨.hbm, 97, rfl⟩
abbrev main_call6_v2 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_10 : Ref sig .tc := ⟨.hbm, 105, rfl⟩
abbrev main_call7_v0 : Ref sig .tc := ⟨.hbm, 106, rfl⟩
abbrev main_call7_v1 : Ref sig .tc := ⟨.hbm, 107, rfl⟩
abbrev main_call7_v2 : Ref sig .tc := ⟨.hbm, 108, rfl⟩
abbrev main_v66 : Ref sig .tc := ⟨.hbm, 109, rfl⟩
abbrev main_cst_11 : Ref sig .tc := ⟨.hbm, 110, rfl⟩
abbrev main_v67 : Ref sig .tc := ⟨.hbm, 111, rfl⟩
abbrev main_cst_12 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_cst_13 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_values : Ref sig .tc := ⟨.hbm, 124, rfl⟩
abbrev main_indices : Ref sig .tc := ⟨.hbm, 125, rfl⟩
abbrev main_v78 : Ref sig .tc := ⟨.hbm, 126, rfl⟩
abbrev main_c : Ref sig .tc := ⟨.hbm, 127, rfl⟩
abbrev main_call8_v0 : Ref sig .tc := ⟨.hbm, 128, rfl⟩
abbrev main_call8_v1 : Ref sig .tc := ⟨.hbm, 129, rfl⟩
abbrev main_v79 : Ref sig .tc := ⟨.hbm, 130, rfl⟩

abbrev nD : Nat := 1
abbrev τ : Topo := Topo.v7x

variable {F : FTy → Type} [FloatOps F]
-- ==== Proof.Kernel.RunA.lean ====
/- The run of the kernel body at the first grid point, where the statistics are computed (its counted loop sums the lengths): what every buffer holds afterwards. -/
module

public import proofs.«01_k».proof.Proof.Kernel.Runs
public import proofs.«01_k».proof.Proof.Kernel.Loop

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken: points 0): on whole staging memrefs — the inputs' at their contents,
    the FORGOTTEN outputs' (9, 10, 11, 12) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (hc0 : cond0_0 i)
    (x0 : Vec F S128x4096 .f32) (x1 : Vec F S8x64 .f32) (x2 : Vec F S1x64 .f32) (x3 : Vec F S64x64 .f32) (x4 : Vec F S1x64 .f32) (x5 : Vec F S64x128 .f32) (x6 : Vec F S1x128 .f32) (x7 : Vec F S192x8 .f32) (x8 : Vec F S1x8 .f32) (xt0 : TbBuf0 (F := F) c tbM0_0) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0) -∗ K ⟨⟩))
          ⊢ wp frame (wpE (defs₀ (F := F)) Variants.none c none) E (cc0__fused_kernel i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0__fused_kernel_eq_skeleton]; unfold cc0__fused_kernel_skel
    simp only [k0_part5_eq_skeleton, k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%ds0, %fs0, -, HS0⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]
    · iexists _, _; isplitr; swap; · iexact HS0
      ipureintro; rfl
    iexact HT0

end Cert.Kernel.Gen

end
-- ==== Proof.Kernel.RunB.lean ====
/- The run of the kernel body at the later grid points, where the statistics are read from the scratch: what every buffer holds afterwards. -/
module

public import proofs.«01_k».proof.Proof.Kernel.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken: points 1, 2, … 15: 15 of 16): on whole staging memrefs — the inputs' at their contents,
    the FORGOTTEN outputs' (9, 10, 11, 12) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (hc0 : ¬cond0_0 i)
    (x0 : Vec F S128x4096 .f32) (x1 : Vec F S8x64 .f32) (x2 : Vec F S1x64 .f32) (x3 : Vec F S64x64 .f32) (x4 : Vec F S1x64 .f32) (x5 : Vec F S64x128 .f32) (x6 : Vec F S1x128 .f32) (x7 : Vec F S192x8 .f32) (x8 : Vec F S1x8 .f32) (xt0 : TbBuf0 (F := F) c tbM0_0) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0) -∗ K ⟨⟩))
          ⊢ wp frame (wpE (defs₀ (F := F)) Variants.none c none) E (cc0__fused_kernel i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0__fused_kernel_eq_skeleton]; unfold cc0__fused_kernel_skel
    simp only [k0_part5_eq_skeleton, k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%ds0, %fs0, -, HS0⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]
    · iexists _, _; isplitr; swap; · iexact HS0
      ipureintro; rfl
    iexact HT0

end Cert.Kernel.Gen

end
-- ==== Proof.Kernel.Frame.lean ====
/- What the outputs and the scratch hold point by point, the body obligation, the run of the whole program and its frame. -/
module

public import proofs.«01_k».proof.Proof.Kernel.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (9, 10, 11, 12): nothing reads what the kernel leaves in them, so nothing
    of it is named (Lib/Pipeline/Dat.lean `Dat.toRForget`). -/
def forgets0 : Fin 13 → Bool := fun w => w.val == 9 || w.val == 10 || w.val == 11 || w.val == 12

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, h⟩ => Pipeline.Dat.unnamed (cfg := (cfgM m hO)) ⟨9, h⟩ t
    | ⟨10, h⟩ => Pipeline.Dat.unnamed (cfg := (cfgM m hO)) ⟨10, h⟩ t
    | ⟨11, h⟩ => Pipeline.Dat.unnamed (cfg := (cfgM m hO)) ⟨11, h⟩ t
    | ⟨12, h⟩ => Pipeline.Dat.unnamed (cfg := (cfgM m hO)) ⟨12, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
/-- What the body leaves of window 1. -/
theorem after0_1 (hO : Ok m) (c : Dev nD) (t : Fin (cfgM m hO).N) : (dats m hO 0 c).after 1 t = iblk m hO c 1 t := by dsimp only [dats]; try rfl
/-- What the body leaves of window 2. -/
theorem after0_2 (hO : Ok m) (c : Dev nD) (t : Fin (cfgM m hO).N) : (dats m hO 0 c).after 2 t = iblk m hO c 2 t := by dsimp only [dats]; try rfl
/-- What the body leaves of window 3. -/
theorem after0_3 (hO : Ok m) (c : Dev nD) (t : Fin (cfgM m hO).N) : (dats m hO 0 c).after 3 t = iblk m hO c 3 t := by dsimp only [dats]; try rfl
/-- What the body leaves of window 4. -/
theorem after0_4 (hO : Ok m) (c : Dev nD) (t : Fin (cfgM m hO).N) : (dats m hO 0 c).after 4 t = iblk m hO c 4 t := by dsimp only [dats]; try rfl
/-- What the body leaves of window 5. -/
theorem after0_5 (hO : Ok m) (c : Dev nD) (t : Fin (cfgM m hO).N) : (dats m hO 0 c).after 5 t = iblk m hO c 5 t := by dsimp only [dats]; try rfl
/-- What the body leaves of window 6. -/
theorem after0_6 (hO : Ok m) (c : Dev nD) (t : Fin (cfgM m hO).N) : (dats m hO 0 c).after 6 t = iblk m hO c 6 t := by dsimp only [dats]; try rfl
/-- What the body leaves of window 7. -/
theorem after0_7 (hO : Ok m) (c : Dev nD) (t : Fin (cfgM m hO).N) : (dats m hO 0 c).after 7 t = iblk m hO c 7 t := by dsimp only [dats]; try rfl
/-- What the body leaves of window 8. -/
theorem after0_8 (hO : Ok m) (c : Dev nD) (t : Fin (cfgM m hO).N) : (dats m hO 0 c).after 8 t = iblk m hO c 8 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
/-- Window 1 holds its block at every point. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
/-- Window 2 holds its block at every point. -/
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
/-- Window 3 holds its block at every point. -/
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
/-- Window 4 holds its block at every point. -/
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
/-- Window 5 holds its block at every point. -/
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
/-- Window 6 holds its block at every point. -/
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
/-- Window 7 holds its block at every point. -/
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
/-- Window 8 holds its block at every point. -/
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d)
    ∗ (∃ d, owns (c : Thread nD τ) (ms0_12 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d)
    ∗ (∃ d, owns (c : Thread nD τ) (ms0_12 m hO t) fullShare d))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8]
  rw [show (dats m hO 0 c).Φ t.castSucc = iprop(Pipeline.ΦA spec0 c ∗ Pipeline.ΦT pre0 (tbl m) c) from rfl, PhiT0_eq, PhiA0_eq]
  have hN : t.val < 16 := lt_of_lt_of_eq t.isLt (show (cfgM m hO).N = 16 from N_0)
  by_cases h0 : t.val % 16 = 0
  · iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_A c (grid0.coords t) _ _ _ _ _ _ _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [HS0]; · iexact HS0
    isplitl [HT0]; · iexact HT0
    iintro ⟨H0, H1, H2, H3, H4, H5, H6, H7, H8, H9, H10, H11, H12, HS0, HT0⟩
    isplitl [HS0 Hg HT0]
    · isplitl [HS0 Hg]
      · isplitl [HS0]
        · iexact HS0
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_B c (grid0.coords t) _ _ _ _ _ _ _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [HS0]; · iexact HS0
    isplitl [HT0]; · iexact HT0
    iintro ⟨H0, H1, H2, H3, H4, H5, H6, H7, H8, H9, H10, H11, H12, HS0, HT0⟩
    isplitl [HS0 Hg HT0]
    · isplitl [HS0 Hg]
      · isplitl [HS0]
        · iexact HS0
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) : θ_run defs (onTc (τ := τ) (main (F := F))) (s₀ m ρ) (fun r => (Pipeline.RDat.FramePostR ((Pipeline.pin pcfgs fun _ => adm m hO) 0) (fun c => (dats m hO 0 c).toRForget forgets0) T0 (V m)) r ∧ r.2.sem = fun _ => 0) :=
  Pipeline.θ_run_frameP_around_T_forget (Q' := _) pcfgs (fun _ => adm m hO) (dats m hO) (0 : Fin 1) launch0 defs₀ Variants.none forgets0 T0 m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 9, 10, 11, 12) (Lib/Pipeline/Frame.lean `RDat.FramePostR` over the proof data with those windows
    forgotten, Dat.lean `Dat.toRForget`), and every other unscoped buffer outside `T0` at its region-entry contents. -/
theorem run_main (hO : Ok m) : θ_run defs (onTc (τ := τ) (main (F := F))) (s₀ m ρ) (Pipeline.RDat.FramePostR ((Pipeline.pin pcfgs fun _ => adm m hO) 0) (fun c => (dats m hO 0 c).toRForget forgets0) T0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ hO (fun c => (dats m hO 0 c).toRForget forgets0) (A_eq m hO) (run_main m ρ hO)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them), which Proof.lean proves from the precondition: `⟨…, fun m ρ h => Cert.Kernel.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ hO) ((θ_run defs _ _).mono (fun _ h => h.2) (run_main_quiescent m ρ hO))

end Cert.Kernel.Gen

end
-- ==== Proof.KernelIdeal.Points.lean ====
/- The schedule of the pipeline: where each window is fetched and written back, in closed form over the grid. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%1)) is fetched at the first point only, at any contents of the tables (its index map reads none). -/
theorem fetch0_0 (a : (pcfg0 (F := F)).Adm) : ∀ t : Fin (cfg0 a).N, ((cfg0 a).win 0).fetch t = true ↔ t.val % 16 = 0 :=
  (fun t => Pipeline.Window.fetchOf_const cc0_transform_0 (fun _ _ => rfl) (n := 16) (by decide) t : ∀ t : Fin grid0.N, Pipeline.Window.fetchOf grid0 false cc0_transform_0 t = true ↔ t.val % 16 = 0)
/-- Window 1 (operand 2 (%arg2)) is fetched at the first point only, at any contents of the tables (its index map reads none). -/
theorem fetch0_1 (a : (pcfg0 (F := F)).Adm) : ∀ t : Fin (cfg0 a).N, ((cfg0 a).win 1).fetch t = true ↔ t.val % 16 = 0 :=
  (fun t => Pipeline.Window.fetchOf_const cc0_transform_1 (fun _ _ => rfl) (n := 16) (by decide) t : ∀ t : Fin grid0.N, Pipeline.Window.fetchOf grid0 false cc0_transform_1 t = true ↔ t.val % 16 = 0)
/-- Window 2 (operand 3 (%2)) is fetched at the first point only, at any contents of the tables (its index map reads none). -/
theorem fetch0_2 (a : (pcfg0 (F := F)).Adm) : ∀ t : Fin (cfg0 a).N, ((cfg0 a).win 2).fetch t = true ↔ t.val % 16 = 0 :=
  (fun t => Pipeline.Window.fetchOf_const cc0_transform_2 (fun _ _ => rfl) (n := 16) (by decide) t : ∀ t : Fin grid0.N, Pipeline.Window.fetchOf grid0 false cc0_transform_2 t = true ↔ t.val % 16 = 0)
/-- Window 3 (operand 4 (%arg4)) is fetched at the first point only, at any contents of the tables (its index map reads none). -/
theorem fetch0_3 (a : (pcfg0 (F := F)).Adm) : ∀ t : Fin (cfg0 a).N, ((cfg0 a).win 3).fetch t = true ↔ t.val % 16 = 0 :=
  (fun t => Pipeline.Window.fetchOf_const cc0_transform_3 (fun _ _ => rfl) (n := 16) (by decide) t : ∀ t : Fin grid0.N, Pipeline.Window.fetchOf grid0 false cc0_transform_3 t = true ↔ t.val % 16 = 0)
/-- Window 4 (operand 5 (%3)) is fetched at the first point only, at any contents of the tables (its index map reads none). -/
theorem fetch0_4 (a : (pcfg0 (F := F)).Adm) : ∀ t : Fin (cfg0 a).N, ((cfg0 a).win 4).fetch t = true ↔ t.val % 16 = 0 :=
  (fun t => Pipeline.Window.fetchOf_const cc0_transform_4 (fun _ _ => rfl) (n := 16) (by decide) t : ∀ t : Fin grid0.N, Pipeline.Window.fetchOf grid0 false cc0_transform_4 t = true ↔ t.val % 16 = 0)
/-- Window 5 (operand 6 (%arg6)) is fetched at the first point only, at any contents of the tables (its index map reads none). -/
theorem fetch0_5 (a : (pcfg0 (F := F)).Adm) : ∀ t : Fin (cfg0 a).N, ((cfg0 a).win 5).fetch t = true ↔ t.val % 16 = 0 :=
  (fun t => Pipeline.Window.fetchOf_const cc0_transform_5 (fun _ _ => rfl) (n := 16) (by decide) t : ∀ t : Fin grid0.N, Pipeline.Window.fetchOf grid0 false cc0_transform_5 t = true ↔ t.val % 16 = 0)
/-- Window 6 (operand 7 (%4)) is fetched at the first point only, at any contents of the tables (its index map reads none). -/
theorem fetch0_6 (a : (pcfg0 (F := F)).Adm) : ∀ t : Fin (cfg0 a).N, ((cfg0 a).win 6).fetch t = true ↔ t.val % 16 = 0 :=
  (fun t => Pipeline.Window.fetchOf_const cc0_transform_6 (fun _ _ => rfl) (n := 16) (by decide) t : ∀ t : Fin grid0.N, Pipeline.Window.fetchOf grid0 false cc0_transform_6 t = true ↔ t.val % 16 = 0)
/-- Window 7 (operand 8 (%arg8)) is fetched at the first point only, at any contents of the tables (its index map reads none). -/
theorem fetch0_7 (a : (pcfg0 (F := F)).Adm) : ∀ t : Fin (cfg0 a).N, ((cfg0 a).win 7).fetch t = true ↔ t.val % 16 = 0 :=
  (fun t => Pipeline.Window.fetchOf_const cc0_transform_7 (fun _ _ => rfl) (n := 16) (by decide) t : ∀ t : Fin grid0.N, Pipeline.Window.fetchOf grid0 false cc0_transform_7 t = true ↔ t.val % 16 = 0)
/-- Window 8 (operand 9 (%5)) is fetched at the first point only, at any contents of the tables (its index map reads none). -/
theorem fetch0_8 (a : (pcfg0 (F := F)).Adm) : ∀ t : Fin (cfg0 a).N, ((cfg0 a).win 8).fetch t = true ↔ t.val % 16 = 0 :=
  (fun t => Pipeline.Window.fetchOf_const cc0_transform_8 (fun _ _ => rfl) (n := 16) (by decide) t : ∀ t : Fin grid0.N, Pipeline.Window.fetchOf grid0 false cc0_transform_8 t = true ↔ t.val % 16 = 0)
/-- Window 9 (result 0 (%6#0)) is written back at every point, at any contents of the tables (its index map reads none). -/
theorem flush0_9 (a : (pcfg0 (F := F)).Adm) : ∀ t : Fin (cfg0 a).N, ((cfg0 a).win 9).flush t = true :=
  (fun t => (Pipeline.Window.flushOf_reads cc0_transform_9 reads0_9 hreads0_9 0 (by decide) (by decide) (Pipeline.Window.sep_of_coord cc0_transform_9 0 0 (fun _ => rfl) (by decide)) (P := 1) (m := 0) (by decide) rfl t).mpr (Nat.mod_one _) : ∀ t : Fin grid0.N, Pipeline.Window.flushOf grid0 true cc0_transform_9 t = true)
/-- Window 10 (result 1 (%6#1)) is written back at every point, at any contents of the tables (its index map reads none). -/
theorem flush0_10 (a : (pcfg0 (F := F)).Adm) : ∀ t : Fin (cfg0 a).N, ((cfg0 a).win 10).flush t = true :=
  (fun t => (Pipeline.Window.flushOf_reads cc0_transform_10 reads0_10 hreads0_10 0 (by decide) (by decide) (Pipeline.Window.sep_of_coord cc0_transform_10 0 0 (fun _ => rfl) (by decide)) (P := 1) (m := 0) (by decide) rfl t).mpr (Nat.mod_one _) : ∀ t : Fin grid0.N, Pipeline.Window.flushOf grid0 true cc0_transform_10 t = true)
/-- Window 11 (result 2 (%6#2)) is written back at every point, at any contents of the tables (its index map reads none). -/
theorem flush0_11 (a : (pcfg0 (F := F)).Adm) : ∀ t : Fin (cfg0 a).N, ((cfg0 a).win 11).flush t = true :=
  (fun t => (Pipeline.Window.flushOf_reads cc0_transform_11 reads0_11 hreads0_11 0 (by decide) (by decide) (Pipeline.Window.sep_of_coord cc0_transform_11 0 0 (fun _ => rfl) (by decide)) (P := 1) (m := 0) (by decide) rfl t).mpr (Nat.mod_one _) : ∀ t : Fin grid0.N, Pipeline.Window.flushOf grid0 true cc0_transform_11 t = true)
/-- Window 12 (result 3 (%6#3)) is written back at every point, at any contents of the tables (its index map reads none). -/
theorem flush0_12 (a : (pcfg0 (F := F)).Adm) : ∀ t : Fin (cfg0 a).N, ((cfg0 a).win 12).flush t = true :=
  (fun t => (Pipeline.Window.flushOf_reads cc0_transform_12 reads0_12 hreads0_12 0 (by decide) (by decide) (Pipeline.Window.sep_of_coord cc0_transform_12 0 0 (fun _ => rfl) (by decide)) (P := 1) (m := 0) (by decide) rfl t).mpr (Nat.mod_one _) : ∀ t : Fin grid0.N, Pipeline.Window.flushOf grid0 true cc0_transform_12 t = true)

/-- The current staging memref of each window at point `t`: which of its buffers it is on. -/
abbrev st0_0 (a : (pcfg0 (F := F)).Adm) (t : Fin (cfg0 a).N) := ((cfg0 a).win 0).stage ((cfg0 a).slots t 0)
/-- The current staging buffer of window 1. -/
abbrev st0_1 (a : (pcfg0 (F := F)).Adm) (t : Fin (cfg0 a).N) := ((cfg0 a).win 1).stage ((cfg0 a).slots t 1)
/-- The current staging buffer of window 2. -/
abbrev st0_2 (a : (pcfg0 (F := F)).Adm) (t : Fin (cfg0 a).N) := ((cfg0 a).win 2).stage ((cfg0 a).slots t 2)
/-- The current staging buffer of window 3. -/
abbrev st0_3 (a : (pcfg0 (F := F)).Adm) (t : Fin (cfg0 a).N) := ((cfg0 a).win 3).stage ((cfg0 a).slots t 3)
/-- The current staging buffer of window 4. -/
abbrev st0_4 (a : (pcfg0 (F := F)).Adm) (t : Fin (cfg0 a).N) := ((cfg0 a).win 4).stage ((cfg0 a).slots t 4)
/-- The current staging buffer of window 5. -/
abbrev st0_5 (a : (pcfg0 (F := F)).Adm) (t : Fin (cfg0 a).N) := ((cfg0 a).win 5).stage ((cfg0 a).slots t 5)
/-- The current staging buffer of window 6. -/
abbrev st0_6 (a : (pcfg0 (F := F)).Adm) (t : Fin (cfg0 a).N) := ((cfg0 a).win 6).stage ((cfg0 a).slots t 6)
/-- The current staging buffer of window 7. -/
abbrev st0_7 (a : (pcfg0 (F := F)).Adm) (t : Fin (cfg0 a).N) := ((cfg0 a).win 7).stage ((cfg0 a).slots t 7)
/-- The current staging buffer of window 8. -/
abbrev st0_8 (a : (pcfg0 (F := F)).Adm) (t : Fin (cfg0 a).N) := ((cfg0 a).win 8).stage ((cfg0 a).slots t 8)
/-- The current staging buffer of window 9. -/
abbrev st0_9 (a : (pcfg0 (F := F)).Adm) (t : Fin (cfg0 a).N) := ((cfg0 a).win 9).stage ((cfg0 a).slots t 9)
/-- The current staging buffer of window 10. -/
abbrev st0_10 (a : (pcfg0 (F := F)).Adm) (t : Fin (cfg0 a).N) := ((cfg0 a).win 10).stage ((cfg0 a).slots t 10)
/-- The current staging buffer of window 11. -/
abbrev st0_11 (a : (pcfg0 (F := F)).Adm) (t : Fin (cfg0 a).N) := ((cfg0 a).win 11).stage ((cfg0 a).slots t 11)
/-- The current staging buffer of window 12. -/
abbrev st0_12 (a : (pcfg0 (F := F)).Adm) (t : Fin (cfg0 a).N) := ((cfg0 a).win 12).stage ((cfg0 a).slots t 12)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__fused_kernel (grid0.coords t) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (Memref.whole cc0_scratch0) (Memref.isWhole_whole _)

end Cert.KernelIdeal.Gen

end
-- ==== Proof.KernelIdeal.Runs.lean ====
/- What the runs of the kernel body share: the host lines around the region, the contents of the buffers at the region, the table of lengths, the branch condition over the grid, the staging buffers. -/
module

public import proofs.«01_k».proof.Proof.Gen.KernelIdeal.Launch
public import proofs.«01_k».proof.Proof.Gen.KernelIdeal.Skeleton
public import proofs.«01_k».proof.Proof.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The lines before the region allocate nothing. -/
theorem hostOps0_fresh : (hostOps0 : List (HloOp τ sig (Elt F))).Forall fun op => op.fresh = ∅ := by
  simp only [List.Forall]; repeat' constructor
/-- The lines after the region allocate nothing. -/
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
/-- The region's pipeline at the tables of memory `m`. -/
abbrev cfgM (hO : Ok m) : Pipeline.Cfg sig Λ₀ := cfg0 (adm m hO)

/-- Each table as the body is handed it: its whole buffer as a memref, and that memref's wholeness. -/
abbrev tbM0_0 : Memref sig .tc .smem S16 .i32 := Memref.whole main_arg1
/-- The table is its whole buffer. -/
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
/-- The table's buffer held at half the full share. -/
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- No host operation after the region writes `main_arg0`: it ends as launched. -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg3`: it ends as launched. -/
theorem W_main_arg3 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg5`: it ends as launched. -/
theorem W_main_arg5 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg5 = m ((c : Thread nD τ).loc main_arg5) := by
  unfold Pipeline.afterTail
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg7`: it ends as launched. -/
theorem W_main_arg7 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg7 = m ((c : Thread nD τ).loc main_arg7) := by
  unfold Pipeline.afterTail
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No host operation after the region writes `main_arg9`: it ends as launched. -/
theorem W_main_arg9 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg9 = m ((c : Thread nD τ).loc main_arg9) := by
  unfold Pipeline.afterTail
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(((h c).2 main_arg0 (by decide : main_arg0 ∈ Pipeline.restRefs sig spec0)).trans (W_main_arg0 m hO dats c)),
      (((h c).2 main_arg1 (by decide : main_arg1 ∈ Pipeline.restRefs sig spec0)).trans (W_main_arg1 m hO dats c)),
      ((h c).1 1).trans (((dats 0 c).arrAt_in 1 rfl _).trans ((hA c 1).trans (V_main_arg2 m c))),
      (((h c).2 main_arg3 (by decide : main_arg3 ∈ Pipeline.restRefs sig spec0)).trans (W_main_arg3 m hO dats c)),
      ((h c).1 3).trans (((dats 0 c).arrAt_in 3 rfl _).trans ((hA c 3).trans (V_main_arg4 m c))),
      (((h c).2 main_arg5 (by decide : main_arg5 ∈ Pipeline.restRefs sig spec0)).trans (W_main_arg5 m hO dats c)),
      ((h c).1 5).trans (((dats 0 c).arrAt_in 5 rfl _).trans ((hA c 5).trans (V_main_arg6 m c))),
      (((h c).2 main_arg7 (by decide : main_arg7 ∈ Pipeline.restRefs sig spec0)).trans (W_main_arg7 m hO dats c)),
      ((h c).1 7).trans (((dats 0 c).arrAt_in 7 rfl _).trans ((hA c 7).trans (V_main_arg8 m c))),
      (((h c).2 main_arg9 (by decide : main_arg9 ∈ Pipeline.restRefs sig spec0)).trans (W_main_arg9 m hO dats c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin grid0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-! ## The kernel body on any staging memrefs: a subtype the run finds -/

/-- One staging buffer of output window 9, through which its contents are stated (`View.read_writes_of_cover`: the
    choice does not matter). -/
abbrev VO0_9 : View sig .tc .vmem S1x8x4096 .f32 := (Memref.whole cc0_stg9_0 : Memref sig .tc .vmem S1x8x4096 .f32).view
/-- One staging buffer of output window 10, through which its contents are stated (`View.read_writes_of_cover`: the
    choice does not matter). -/
abbrev VO0_10 : View sig .tc .vmem S1x1x4096 .i32 := (Memref.whole cc0_stg10_0 : Memref sig .tc .vmem S1x1x4096 .i32).view
/-- One staging buffer of output window 11, through which its contents are stated (`View.read_writes_of_cover`: the
    choice does not matter). -/
abbrev VO0_11 : View sig .tc .vmem S1x1x4096 .f32 := (Memref.whole cc0_stg11_0 : Memref sig .tc .vmem S1x1x4096 .f32).view
/-- One staging buffer of output window 12, through which its contents are stated (`View.read_writes_of_cover`: the
    choice does not matter). -/
abbrev VO0_12 : View sig .tc .vmem S1x192x4096 .f32 := (Memref.whole cc0_stg12_0 : Memref sig .tc .vmem S1x192x4096 .f32).view
/-- Each window's current staging memref at point `t`, spelled as the pipeline passes it (`bodyAt0`), and its wholeness. -/
abbrev ms0_0 (hO : Ok m) (t : Fin (cfgM m hO).N) : Memref sig .tc .vmem S128x4096 .f32 := spec0_0.stage ((cfgM m hO).slots t 0)
/-- The staging buffer of window 0 is whole. -/
abbrev hs0_0 (hO : Ok m) (t : Fin (cfgM m hO).N) : (ms0_0 m hO t).IsWhole := hstage0_0 (((cfgM m hO).slots t 0).cast nbuf0_0)
/-- The current staging buffer of window 1, at its own shape. -/
abbrev ms0_1 (hO : Ok m) (t : Fin (cfgM m hO).N) : Memref sig .tc .vmem S8x64 .f32 := spec0_1.stage ((cfgM m hO).slots t 1)
/-- The staging buffer of window 1 is whole. -/
abbrev hs0_1 (hO : Ok m) (t : Fin (cfgM m hO).N) : (ms0_1 m hO t).IsWhole := hstage0_1 (((cfgM m hO).slots t 1).cast nbuf0_1)
/-- The current staging buffer of window 2, at its own shape. -/
abbrev ms0_2 (hO : Ok m) (t : Fin (cfgM m hO).N) : Memref sig .tc .vmem S1x64 .f32 := spec0_2.stage ((cfgM m hO).slots t 2)
/-- The staging buffer of window 2 is whole. -/
abbrev hs0_2 (hO : Ok m) (t : Fin (cfgM m hO).N) : (ms0_2 m hO t).IsWhole := hstage0_2 (((cfgM m hO).slots t 2).cast nbuf0_2)
/-- The current staging buffer of window 3, at its own shape. -/
abbrev ms0_3 (hO : Ok m) (t : Fin (cfgM m hO).N) : Memref sig .tc .vmem S64x64 .f32 := spec0_3.stage ((cfgM m hO).slots t 3)
/-- The staging buffer of window 3 is whole. -/
abbrev hs0_3 (hO : Ok m) (t : Fin (cfgM m hO).N) : (ms0_3 m hO t).IsWhole := hstage0_3 (((cfgM m hO).slots t 3).cast nbuf0_3)
/-- The current staging buffer of window 4, at its own shape. -/
abbrev ms0_4 (hO : Ok m) (t : Fin (cfgM m hO).N) : Memref sig .tc .vmem S1x64 .f32 := spec0_4.stage ((cfgM m hO).slots t 4)
/-- The staging buffer of window 4 is whole. -/
abbrev hs0_4 (hO : Ok m) (t : Fin (cfgM m hO).N) : (ms0_4 m hO t).IsWhole := hstage0_4 (((cfgM m hO).slots t 4).cast nbuf0_4)
/-- The current staging buffer of window 5, at its own shape. -/
abbrev ms0_5 (hO : Ok m) (t : Fin (cfgM m hO).N) : Memref sig .tc .vmem S64x128 .f32 := spec0_5.stage ((cfgM m hO).slots t 5)
/-- The staging buffer of window 5 is whole. -/
abbrev hs0_5 (hO : Ok m) (t : Fin (cfgM m hO).N) : (ms0_5 m hO t).IsWhole := hstage0_5 (((cfgM m hO).slots t 5).cast nbuf0_5)
/-- The current staging buffer of window 6, at its own shape. -/
abbrev ms0_6 (hO : Ok m) (t : Fin (cfgM m hO).N) : Memref sig .tc .vmem S1x128 .f32 := spec0_6.stage ((cfgM m hO).slots t 6)
/-- The staging buffer of window 6 is whole. -/
abbrev hs0_6 (hO : Ok m) (t : Fin (cfgM m hO).N) : (ms0_6 m hO t).IsWhole := hstage0_6 (((cfgM m hO).slots t 6).cast nbuf0_6)
/-- The current staging buffer of window 7, at its own shape. -/
abbrev ms0_7 (hO : Ok m) (t : Fin (cfgM m hO).N) : Memref sig .tc .vmem S192x8 .f32 := spec0_7.stage ((cfgM m hO).slots t 7)
/-- The staging buffer of window 7 is whole. -/
abbrev hs0_7 (hO : Ok m) (t : Fin (cfgM m hO).N) : (ms0_7 m hO t).IsWhole := hstage0_7 (((cfgM m hO).slots t 7).cast nbuf0_7)
/-- The current staging buffer of window 8, at its own shape. -/
abbrev ms0_8 (hO : Ok m) (t : Fin (cfgM m hO).N) : Memref sig .tc .vmem S1x8 .f32 := spec0_8.stage ((cfgM m hO).slots t 8)
/-- The staging buffer of window 8 is whole. -/
abbrev hs0_8 (hO : Ok m) (t : Fin (cfgM m hO).N) : (ms0_8 m hO t).IsWhole := hstage0_8 (((cfgM m hO).slots t 8).cast nbuf0_8)
/-- The current staging buffer of window 9, at its own shape. -/
abbrev ms0_9 (hO : Ok m) (t : Fin (cfgM m hO).N) : Memref sig .tc .vmem S1x8x4096 .f32 := spec0_9.stage ((cfgM m hO).slots t 9)
/-- The staging buffer of window 9 is whole. -/
abbrev hs0_9 (hO : Ok m) (t : Fin (cfgM m hO).N) : (ms0_9 m hO t).IsWhole := hstage0_9 (((cfgM m hO).slots t 9).cast nbuf0_9)
/-- The current staging buffer of window 10, at its own shape. -/
abbrev ms0_10 (hO : Ok m) (t : Fin (cfgM m hO).N) : Memref sig .tc .vmem S1x1x4096 .i32 := spec0_10.stage ((cfgM m hO).slots t 10)
/-- The staging buffer of window 10 is whole. -/
abbrev hs0_10 (hO : Ok m) (t : Fin (cfgM m hO).N) : (ms0_10 m hO t).IsWhole := hstage0_10 (((cfgM m hO).slots t 10).cast nbuf0_10)
/-- The current staging buffer of window 11, at its own shape. -/
abbrev ms0_11 (hO : Ok m) (t : Fin (cfgM m hO).N) : Memref sig .tc .vmem S1x1x4096 .f32 := spec0_11.stage ((cfgM m hO).slots t 11)
/-- The staging buffer of window 11 is whole. -/
abbrev hs0_11 (hO : Ok m) (t : Fin (cfgM m hO).N) : (ms0_11 m hO t).IsWhole := hstage0_11 (((cfgM m hO).slots t 11).cast nbuf0_11)
/-- The current staging buffer of window 12, at its own shape. -/
abbrev ms0_12 (hO : Ok m) (t : Fin (cfgM m hO).N) : Memref sig .tc .vmem S1x192x4096 .f32 := spec0_12.stage ((cfgM m hO).slots t 12)
/-- The staging buffer of window 12 is whole. -/
abbrev hs0_12 (hO : Ok m) (t : Fin (cfgM m hO).N) : (ms0_12 m hO t).IsWhole := hstage0_12 (((cfgM m hO).slots t 12).cast nbuf0_12)
/-- The scratch operands: whole scoped buffers of the kernel's own, passed beside the windows. -/
abbrev scM0_0 : Memref sig .tc .vmem S8x2 .f32 := Memref.whole cc0_scratch0
/-- The scratch `arg15` the kernel carries between points, as a view: what it holds is stated through it. -/
abbrev VS0_0 : View sig .tc .vmem S8x2 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.KernelIdeal.Loop.lean ====
/- The counted loop over the table of lengths, by its invariant. The body reads the table while the pipeline keeps one
   half of it, so the invariant holds the table at the other half; the value carried is the sum of the words read so far. -/
module

public import proofs.«01_k».proof.Proof.KernelIdeal.Runs
public import proofs.«01_k».proof.Proof.Gen.KernelIdeal.Loops

@[expose] public section

set_option maxRecDepth 16384
set_option warn.classDefReducibility false

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄L" => MT nD τ sig Unit (Elt F) ℕ (UR sig nD τ) ℕ

/-- The word of the table the loop reads in trip `k`. -/
def lenWord (c : Dev nD) (i : grid0.Coords) (k0_h1 : k0_cond1 i = 1#1) (f : TbBuf0 (F := F) c tbM0_0) (k : Fin k0_t1_loop.trips) : BitVec 32 :=
  View.readAt (Elt F) tbM0_0.view (Rect.unit (s := S16) (k0_off1 k) S1.size (k0_off1_inb i k k0_h1)).toLoadRect f
    (Shape.Idx.first (Nat.lt_of_lt_of_eq Nat.one_pos numel1_S1.symm))

/-- The sum of the first `k` words of the table. -/
def lenSum (c : Dev nD) (i : grid0.Coords) (k0_h1 : k0_cond1 i = 1#1) (f : TbBuf0 (F := F) c tbM0_0) (init : BitVec 32) : ℕ → BitVec 32
  | 0 => init
  | k + 1 => if h : k < k0_t1_loop.trips then Scalar.addi (lenSum c i k0_h1 f init k) (lenWord c i k0_h1 f ⟨k, h⟩) else lenSum c i k0_h1 f init k

/-- One more trip of the loop adds one more length. -/
theorem lenSum_succ (c : Dev nD) (i : grid0.Coords) (k0_h1 : k0_cond1 i = 1#1) (f : TbBuf0 (F := F) c tbM0_0) (init : BitVec 32) (k : Fin k0_t1_loop.trips) :
    lenSum c i k0_h1 f init (k.val + 1) = Scalar.addi (lenSum c i k0_h1 f init k.val) (lenWord c i k0_h1 f k) := by
  rw [lenSum]; exact dif_pos k.isLt

/-- One trip reads the trip's word and adds it to the value carried. -/
theorem trip_len (𝒱 : Variants) (c : Dev nD) (bd : Option 𝒱.V) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (k0_h1 : k0_cond1 i = 1#1) (f : TbBuf0 (F := F) c tbM0_0) (k : Fin k0_t1_loop.trips) (E : Set ℕ) (acc : BitVec 32) :
    (tbPt0 c tbM0_0 f : sProp 𝕄L)
      ⊢ wp frame (wpE (defs₀ (F := F)) 𝒱 (c : Thread nD τ) bd) E (k0_t1_body (F := F) i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 k0_h1 k acc)
          (fun yld => iprop(⌜yld = Scalar.addi acc (lenWord c i k0_h1 f k)⌝ ∗ tbPt0 c tbM0_0 f)) := by
  have hk : k.val < 16 := Nat.lt_of_lt_of_le k.isLt k0_t1_abs.2.1
  unfold k0_t1_body
  iintro HR_arg1
  sl_exec
  sl_step
  sl_close

/-- The loop by its invariant: the table held at the half the body has, the value carried the sum of the words so far. -/
@[sl_loop] def loopInv_len (𝒱 : Variants) (c : Dev nD) (bd : Option 𝒱.V) (E : Set ℕ) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (k0_h1 : k0_cond1 i = 1#1) (f : TbBuf0 (F := F) c tbM0_0) (init : BitVec 32) :
    LoopInvTy_k0_t1 (F := F) Unit ℕ (UR sig nD τ) ℕ 𝒱 c bd E i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 k0_h1 init where
  inv k acc := iprop(tbPt0 c tbM0_0 f ∗ ⌜acc = lenSum c i k0_h1 f init k⌝)
  step k acc := by
    iintro ⟨HR_arg1, %h_acc⟩
    subst h_acc
    iapply (wp_wand_r Idealize.ShloMosaic.frame (wpE (defs₀ (F := F)) 𝒱 (c : Thread nD τ) bd) E)
    isplitl [HR_arg1]
    · iapply (trip_len (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 f k E (lenSum c i k0_h1 f init k))
      iexact HR_arg1
    · iintro %yld ⟨%h_res, HR_arg1⟩
      isplitl [HR_arg1]; · iexact HR_arg1
      rw [lenSum_succ]
      ipureintro; exact h_res

end Cert.KernelIdeal.Gen

end
-- ==== Proof.KernelIdeal.RunA.lean ====
/- The run of the kernel body at the first grid point, where the statistics are computed (its counted loop sums the lengths): what every buffer holds afterwards. -/
module

public import proofs.«01_k».proof.Proof.KernelIdeal.Runs
public import proofs.«01_k».proof.Proof.KernelIdeal.Loop

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (hc0 : cond0_0 i)
    (x0 : Vec F S128x4096 .f32) (x1 : Vec F S8x64 .f32) (x2 : Vec F S1x64 .f32) (x3 : Vec F S64x64 .f32) (x4 : Vec F S1x64 .f32) (x5 : Vec F S64x128 .f32) (x6 : Vec F S1x128 .f32) (x7 : Vec F S192x8 .f32) (x8 : Vec F S1x8 .f32) (xt0 : TbBuf0 (F := F) c tbM0_0) :
    Σ' (L9 : List (View.Piece (Elt F) S1x8x4096 .f32)), Σ' (L10 : List (View.Piece (Elt F) S1x1x4096 .i32)), Σ' (L11 : List (View.Piece (Elt F) S1x1x4096 .f32)), Σ' (L12 : List (View.Piece (Elt F) S1x192x4096 .f32)), { LS0 : List (View.Piece (Elt F) S8x2 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0) ∗ tbPt0 c tbM0_0 xt0) -∗ K ⟨⟩))
          ⊢ wp frame (wpE (defs₀ (F := F)) Variants.none c none) E (cc0__fused_kernel i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc0__fused_kernel_eq_skeleton]; unfold cc0__fused_kernel_skel
    simp only [k0_part5_eq_skeleton, k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%ds0, %fs0, -, HS0⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [H12]; · iexists _; iexact H12
    isplitl [HS0]; · iexists _; iexact HS0
    iexact HT0

end Cert.KernelIdeal.Gen

end
-- ==== Proof.KernelIdeal.RunB.lean ====
/- The run of the kernel body at the later grid points, where the statistics are read from the scratch: what every buffer holds afterwards. -/
module

public import proofs.«01_k».proof.Proof.KernelIdeal.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 15: 15 of 16), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (hc0 : ¬cond0_0 i)
    (x0 : Vec F S128x4096 .f32) (x1 : Vec F S8x64 .f32) (x2 : Vec F S1x64 .f32) (x3 : Vec F S64x64 .f32) (x4 : Vec F S1x64 .f32) (x5 : Vec F S64x128 .f32) (x6 : Vec F S1x128 .f32) (x7 : Vec F S192x8 .f32) (x8 : Vec F S1x8 .f32) (xt0 : TbBuf0 (F := F) c tbM0_0) (xs0 : Vec F S8x2 .f32) :
    Σ' (L9 : List (View.Piece (Elt F) S1x8x4096 .f32)), Σ' (L10 : List (View.Piece (Elt F) S1x1x4096 .i32)), Σ' (L11 : List (View.Piece (Elt F) S1x1x4096 .f32)), Σ' (L12 : List (View.Piece (Elt F) S1x192x4096 .f32)), { LS0 : List (View.Piece (Elt F) S8x2 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs0 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ owns (c : Thread nD τ) arg15 fullShare xs0 ∗ tbPt0 c tbM0_0 xt0) -∗ K ⟨⟩))
          ⊢ wp frame (wpE (defs₀ (F := F)) Variants.none c none) E (cc0__fused_kernel i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, [], fun E K => ?run⟩
  case run =>
    simp only [cc0__fused_kernel_eq_skeleton]; unfold cc0__fused_kernel_skel
    simp only [k0_part5_eq_skeleton, k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%fs0, %hfs0, HS0⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg15.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [H12]; · iexists _; iexact H12
    isplitl [HS0]
    · iexists _; isplitr; · ipureintro; exact harg15.read_unread _
      iexact HS0
    iexact HT0

end Cert.KernelIdeal.Gen

end
-- ==== Proof.KernelIdeal.Frame.lean ====
/- What the outputs and the scratch hold point by point, the body obligation, the run of the whole program and its frame. -/
module

public import proofs.«01_k».proof.Proof.KernelIdeal.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 9 tile its block (1 store of `S1x8x4096`, checked by the kernel's evaluation: Lib/Ring.lean `Piece.tiledL`, linear in the pieces, through a loop's `@[irreducible]` trip theorem too), so they cover it. -/
theorem cover0_A_9 (c : Dev nD) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (hc0 : cond0_0 i)
    (x0 : Vec F S128x4096 .f32) (x1 : Vec F S8x64 .f32) (x2 : Vec F S1x64 .f32) (x3 : Vec F S64x64 .f32) (x4 : Vec F S1x64 .f32) (x5 : Vec F S64x128 .f32) (x6 : Vec F S1x128 .f32) (x7 : Vec F S192x8 .f32) (x8 : Vec F S1x8 .f32) (xt0 : TbBuf0 (F := F) c tbM0_0) (y : S1x8x4096.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0).1 S1x8x4096.size (by sl_kernel_rfl) y

/-- What case A leaves in output 9's staging buffer: its pieces read back over junk. -/
def out0_A_9 (c : Dev nD) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (hc0 : cond0_0 i)
    (x0 : Vec F S128x4096 .f32) (x1 : Vec F S8x64 .f32) (x2 : Vec F S1x64 .f32) (x3 : Vec F S64x64 .f32) (x4 : Vec F S1x64 .f32) (x5 : Vec F S64x128 .f32) (x6 : Vec F S1x128 .f32) (x7 : Vec F S192x8 .f32) (x8 : Vec F S1x8 .f32) (xt0 : TbBuf0 (F := F) c tbM0_0) : Vec F S1x8x4096 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0).1)

/-- Case A's pieces for output 10 tile its block (1 store of `S1x1x4096`, checked by the kernel's evaluation: Lib/Ring.lean `Piece.tiledL`, linear in the pieces, through a loop's `@[irreducible]` trip theorem too), so they cover it. -/
theorem cover0_A_10 (c : Dev nD) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (hc0 : cond0_0 i)
    (x0 : Vec F S128x4096 .f32) (x1 : Vec F S8x64 .f32) (x2 : Vec F S1x64 .f32) (x3 : Vec F S64x64 .f32) (x4 : Vec F S1x64 .f32) (x5 : Vec F S64x128 .f32) (x6 : Vec F S1x128 .f32) (x7 : Vec F S192x8 .f32) (x8 : Vec F S1x8 .f32) (xt0 : TbBuf0 (F := F) c tbM0_0) (y : S1x1x4096.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0).2.1 S1x1x4096.size (by sl_kernel_rfl) y

/-- What case A leaves in output 10's staging buffer: its pieces read back over junk. -/
def out0_A_10 (c : Dev nD) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (hc0 : cond0_0 i)
    (x0 : Vec F S128x4096 .f32) (x1 : Vec F S8x64 .f32) (x2 : Vec F S1x64 .f32) (x3 : Vec F S64x64 .f32) (x4 : Vec F S1x64 .f32) (x5 : Vec F S64x128 .f32) (x6 : Vec F S1x128 .f32) (x7 : Vec F S192x8 .f32) (x8 : Vec F S1x8 .f32) (xt0 : TbBuf0 (F := F) c tbM0_0) : Vec F S1x1x4096 .i32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0).2.1)

/-- Case A's pieces for output 11 tile its block (1 store of `S1x1x4096`, checked by the kernel's evaluation: Lib/Ring.lean `Piece.tiledL`, linear in the pieces, through a loop's `@[irreducible]` trip theorem too), so they cover it. -/
theorem cover0_A_11 (c : Dev nD) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (hc0 : cond0_0 i)
    (x0 : Vec F S128x4096 .f32) (x1 : Vec F S8x64 .f32) (x2 : Vec F S1x64 .f32) (x3 : Vec F S64x64 .f32) (x4 : Vec F S1x64 .f32) (x5 : Vec F S64x128 .f32) (x6 : Vec F S1x128 .f32) (x7 : Vec F S192x8 .f32) (x8 : Vec F S1x8 .f32) (xt0 : TbBuf0 (F := F) c tbM0_0) (y : S1x1x4096.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0).2.2.1 S1x1x4096.size (by sl_kernel_rfl) y

/-- What case A leaves in output 11's staging buffer: its pieces read back over junk. -/
def out0_A_11 (c : Dev nD) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (hc0 : cond0_0 i)
    (x0 : Vec F S128x4096 .f32) (x1 : Vec F S8x64 .f32) (x2 : Vec F S1x64 .f32) (x3 : Vec F S64x64 .f32) (x4 : Vec F S1x64 .f32) (x5 : Vec F S64x128 .f32) (x6 : Vec F S1x128 .f32) (x7 : Vec F S192x8 .f32) (x8 : Vec F S1x8 .f32) (xt0 : TbBuf0 (F := F) c tbM0_0) : Vec F S1x1x4096 .f32 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0).2.2.1)

/-- Case A's pieces for output 12 tile its block (1 store of `S1x192x4096`, checked by the kernel's evaluation: Lib/Ring.lean `Piece.tiledL`, linear in the pieces, through a loop's `@[irreducible]` trip theorem too), so they cover it. -/
theorem cover0_A_12 (c : Dev nD) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (hc0 : cond0_0 i)
    (x0 : Vec F S128x4096 .f32) (x1 : Vec F S8x64 .f32) (x2 : Vec F S1x64 .f32) (x3 : Vec F S64x64 .f32) (x4 : Vec F S1x64 .f32) (x5 : Vec F S64x128 .f32) (x6 : Vec F S1x128 .f32) (x7 : Vec F S192x8 .f32) (x8 : Vec F S1x8 .f32) (xt0 : TbBuf0 (F := F) c tbM0_0) (y : S1x192x4096.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0).2.2.2.1 S1x192x4096.size (by sl_kernel_rfl) y

/-- What case A leaves in output 12's staging buffer: its pieces read back over junk. -/
def out0_A_12 (c : Dev nD) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (hc0 : cond0_0 i)
    (x0 : Vec F S128x4096 .f32) (x1 : Vec F S8x64 .f32) (x2 : Vec F S1x64 .f32) (x3 : Vec F S64x64 .f32) (x4 : Vec F S1x64 .f32) (x5 : Vec F S64x128 .f32) (x6 : Vec F S1x128 .f32) (x7 : Vec F S192x8 .f32) (x8 : Vec F S1x8 .f32) (xt0 : TbBuf0 (F := F) c tbM0_0) : Vec F S1x192x4096 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0).2.2.2.1)

/-- Case A's pieces for scratch `arg15`, which the kernel carries between points, cover it: 1 piece of `S8x2` tiling it (Lib/Ring.lean `Piece.tiledL`). -/
theorem scover0_A_0 (c : Dev nD) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (hc0 : cond0_0 i)
    (x0 : Vec F S128x4096 .f32) (x1 : Vec F S8x64 .f32) (x2 : Vec F S1x64 .f32) (x3 : Vec F S64x64 .f32) (x4 : Vec F S1x64 .f32) (x5 : Vec F S64x128 .f32) (x6 : Vec F S1x128 .f32) (x7 : Vec F S192x8 .f32) (x8 : Vec F S1x8 .f32) (xt0 : TbBuf0 (F := F) c tbM0_0) (y : S8x2.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0).2.2.2.2.1 S8x2.size (by sl_kernel_rfl) y

/-- What case A leaves in scratch `arg15`: its pieces read back over junk. -/
def sout0_A_0 (c : Dev nD) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (hc0 : cond0_0 i)
    (x0 : Vec F S128x4096 .f32) (x1 : Vec F S8x64 .f32) (x2 : Vec F S1x64 .f32) (x3 : Vec F S64x64 .f32) (x4 : Vec F S1x64 .f32) (x5 : Vec F S64x128 .f32) (x6 : Vec F S1x128 .f32) (x7 : Vec F S192x8 .f32) (x8 : Vec F S1x8 .f32) (xt0 : TbBuf0 (F := F) c tbM0_0) : Vec F S8x2 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0).2.2.2.2.1)

/-- Case B's pieces for output 9 tile its block (1 store of `S1x8x4096`, checked by the kernel's evaluation: Lib/Ring.lean `Piece.tiledL`, linear in the pieces, through a loop's `@[irreducible]` trip theorem too), so they cover it. -/
theorem cover0_B_9 (c : Dev nD) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (hc0 : ¬cond0_0 i)
    (x0 : Vec F S128x4096 .f32) (x1 : Vec F S8x64 .f32) (x2 : Vec F S1x64 .f32) (x3 : Vec F S64x64 .f32) (x4 : Vec F S1x64 .f32) (x5 : Vec F S64x128 .f32) (x6 : Vec F S1x128 .f32) (x7 : Vec F S192x8 .f32) (x8 : Vec F S1x8 .f32) (xt0 : TbBuf0 (F := F) c tbM0_0) (xs0 : Vec F S8x2 .f32) (y : S1x8x4096.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0).1 S1x8x4096.size (by sl_kernel_rfl) y

/-- What case B leaves in output 9's staging buffer: its pieces read back over junk. -/
def out0_B_9 (c : Dev nD) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (hc0 : ¬cond0_0 i)
    (x0 : Vec F S128x4096 .f32) (x1 : Vec F S8x64 .f32) (x2 : Vec F S1x64 .f32) (x3 : Vec F S64x64 .f32) (x4 : Vec F S1x64 .f32) (x5 : Vec F S64x128 .f32) (x6 : Vec F S1x128 .f32) (x7 : Vec F S192x8 .f32) (x8 : Vec F S1x8 .f32) (xt0 : TbBuf0 (F := F) c tbM0_0) (xs0 : Vec F S8x2 .f32) : Vec F S1x8x4096 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0).1)

/-- Case B's pieces for output 10 tile its block (1 store of `S1x1x4096`, checked by the kernel's evaluation: Lib/Ring.lean `Piece.tiledL`, linear in the pieces, through a loop's `@[irreducible]` trip theorem too), so they cover it. -/
theorem cover0_B_10 (c : Dev nD) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (hc0 : ¬cond0_0 i)
    (x0 : Vec F S128x4096 .f32) (x1 : Vec F S8x64 .f32) (x2 : Vec F S1x64 .f32) (x3 : Vec F S64x64 .f32) (x4 : Vec F S1x64 .f32) (x5 : Vec F S64x128 .f32) (x6 : Vec F S1x128 .f32) (x7 : Vec F S192x8 .f32) (x8 : Vec F S1x8 .f32) (xt0 : TbBuf0 (F := F) c tbM0_0) (xs0 : Vec F S8x2 .f32) (y : S1x1x4096.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0).2.1 S1x1x4096.size (by sl_kernel_rfl) y

/-- What case B leaves in output 10's staging buffer: its pieces read back over junk. -/
def out0_B_10 (c : Dev nD) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (hc0 : ¬cond0_0 i)
    (x0 : Vec F S128x4096 .f32) (x1 : Vec F S8x64 .f32) (x2 : Vec F S1x64 .f32) (x3 : Vec F S64x64 .f32) (x4 : Vec F S1x64 .f32) (x5 : Vec F S64x128 .f32) (x6 : Vec F S1x128 .f32) (x7 : Vec F S192x8 .f32) (x8 : Vec F S1x8 .f32) (xt0 : TbBuf0 (F := F) c tbM0_0) (xs0 : Vec F S8x2 .f32) : Vec F S1x1x4096 .i32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0).2.1)

/-- Case B's pieces for output 11 tile its block (1 store of `S1x1x4096`, checked by the kernel's evaluation: Lib/Ring.lean `Piece.tiledL`, linear in the pieces, through a loop's `@[irreducible]` trip theorem too), so they cover it. -/
theorem cover0_B_11 (c : Dev nD) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (hc0 : ¬cond0_0 i)
    (x0 : Vec F S128x4096 .f32) (x1 : Vec F S8x64 .f32) (x2 : Vec F S1x64 .f32) (x3 : Vec F S64x64 .f32) (x4 : Vec F S1x64 .f32) (x5 : Vec F S64x128 .f32) (x6 : Vec F S1x128 .f32) (x7 : Vec F S192x8 .f32) (x8 : Vec F S1x8 .f32) (xt0 : TbBuf0 (F := F) c tbM0_0) (xs0 : Vec F S8x2 .f32) (y : S1x1x4096.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0).2.2.1 S1x1x4096.size (by sl_kernel_rfl) y

/-- What case B leaves in output 11's staging buffer: its pieces read back over junk. -/
def out0_B_11 (c : Dev nD) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (hc0 : ¬cond0_0 i)
    (x0 : Vec F S128x4096 .f32) (x1 : Vec F S8x64 .f32) (x2 : Vec F S1x64 .f32) (x3 : Vec F S64x64 .f32) (x4 : Vec F S1x64 .f32) (x5 : Vec F S64x128 .f32) (x6 : Vec F S1x128 .f32) (x7 : Vec F S192x8 .f32) (x8 : Vec F S1x8 .f32) (xt0 : TbBuf0 (F := F) c tbM0_0) (xs0 : Vec F S8x2 .f32) : Vec F S1x1x4096 .f32 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0).2.2.1)

/-- Case B's pieces for output 12 tile its block (1 store of `S1x192x4096`, checked by the kernel's evaluation: Lib/Ring.lean `Piece.tiledL`, linear in the pieces, through a loop's `@[irreducible]` trip theorem too), so they cover it. -/
theorem cover0_B_12 (c : Dev nD) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (hc0 : ¬cond0_0 i)
    (x0 : Vec F S128x4096 .f32) (x1 : Vec F S8x64 .f32) (x2 : Vec F S1x64 .f32) (x3 : Vec F S64x64 .f32) (x4 : Vec F S1x64 .f32) (x5 : Vec F S64x128 .f32) (x6 : Vec F S1x128 .f32) (x7 : Vec F S192x8 .f32) (x8 : Vec F S1x8 .f32) (xt0 : TbBuf0 (F := F) c tbM0_0) (xs0 : Vec F S8x2 .f32) (y : S1x192x4096.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0).2.2.2.1 S1x192x4096.size (by sl_kernel_rfl) y

/-- What case B leaves in output 12's staging buffer: its pieces read back over junk. -/
def out0_B_12 (c : Dev nD) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (hc0 : ¬cond0_0 i)
    (x0 : Vec F S128x4096 .f32) (x1 : Vec F S8x64 .f32) (x2 : Vec F S1x64 .f32) (x3 : Vec F S64x64 .f32) (x4 : Vec F S1x64 .f32) (x5 : Vec F S64x128 .f32) (x6 : Vec F S1x128 .f32) (x7 : Vec F S192x8 .f32) (x8 : Vec F S1x8 .f32) (xt0 : TbBuf0 (F := F) c tbM0_0) (xs0 : Vec F S8x2 .f32) : Vec F S1x192x4096 .f32 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0).2.2.2.1)

/-- Case B stores nothing into scratch `arg15`: it holds what the point before left. -/
def sout0_B_0 (c : Dev nD) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (hc0 : ¬cond0_0 i)
    (x0 : Vec F S128x4096 .f32) (x1 : Vec F S8x64 .f32) (x2 : Vec F S1x64 .f32) (x3 : Vec F S64x64 .f32) (x4 : Vec F S1x64 .f32) (x5 : Vec F S64x128 .f32) (x6 : Vec F S1x128 .f32) (x7 : Vec F S192x8 .f32) (x8 : Vec F S1x8 .f32) (xt0 : TbBuf0 (F := F) c tbM0_0) (xs0 : Vec F S8x2 .f32) : Vec F S8x2 .f32 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (hO : Ok m) (c : Dev nD) : (n : ℕ) → n < (cfgM m hO).N → Vec F S1x8x4096 .f32 × Vec F S1x1x4096 .i32 × Vec F S1x1x4096 .f32 × Vec F S1x192x4096 .f32 × Vec F S8x2 .f32
  | 0, hn => (out0_A_9 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) (ms0_10 m hO ⟨0, hn⟩) (hs0_10 m hO ⟨0, hn⟩) (ms0_11 m hO ⟨0, hn⟩) (hs0_11 m hO ⟨0, hn⟩) (ms0_12 m hO ⟨0, hn⟩) (hs0_12 m hO ⟨0, hn⟩) scM0_0 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (iblk m hO c 8 ⟨0, hn⟩) (tbl m 0), out0_A_10 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) (ms0_10 m hO ⟨0, hn⟩) (hs0_10 m hO ⟨0, hn⟩) (ms0_11 m hO ⟨0, hn⟩) (hs0_11 m hO ⟨0, hn⟩) (ms0_12 m hO ⟨0, hn⟩) (hs0_12 m hO ⟨0, hn⟩) scM0_0 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (iblk m hO c 8 ⟨0, hn⟩) (tbl m 0), out0_A_11 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) (ms0_10 m hO ⟨0, hn⟩) (hs0_10 m hO ⟨0, hn⟩) (ms0_11 m hO ⟨0, hn⟩) (hs0_11 m hO ⟨0, hn⟩) (ms0_12 m hO ⟨0, hn⟩) (hs0_12 m hO ⟨0, hn⟩) scM0_0 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (iblk m hO c 8 ⟨0, hn⟩) (tbl m 0), out0_A_12 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) (ms0_10 m hO ⟨0, hn⟩) (hs0_10 m hO ⟨0, hn⟩) (ms0_11 m hO ⟨0, hn⟩) (hs0_11 m hO ⟨0, hn⟩) (ms0_12 m hO ⟨0, hn⟩) (hs0_12 m hO ⟨0, hn⟩) scM0_0 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (iblk m hO c 8 ⟨0, hn⟩) (tbl m 0), sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) (ms0_10 m hO ⟨0, hn⟩) (hs0_10 m hO ⟨0, hn⟩) (ms0_11 m hO ⟨0, hn⟩) (hs0_11 m hO ⟨0, hn⟩) (ms0_12 m hO ⟨0, hn⟩) (hs0_12 m hO ⟨0, hn⟩) scM0_0 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (iblk m hO c 8 ⟨0, hn⟩) (tbl m 0))
  | n + 1, hn =>
    if h0 : (n + 1) % 16 = 0 then
      (out0_A_9 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) scM0_0 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (tbl m 0), out0_A_10 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) scM0_0 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (tbl m 0), out0_A_11 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) scM0_0 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (tbl m 0), out0_A_12 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) scM0_0 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (tbl m 0), sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) scM0_0 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (tbl m 0))
    else
      (out0_B_9 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) scM0_0 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (tbl m 0) (outsAt0 hO c n (Nat.lt_of_succ_lt hn)).2.2.2.2, out0_B_10 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) scM0_0 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (tbl m 0) (outsAt0 hO c n (Nat.lt_of_succ_lt hn)).2.2.2.2, out0_B_11 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) scM0_0 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (tbl m 0) (outsAt0 hO c n (Nat.lt_of_succ_lt hn)).2.2.2.2, out0_B_12 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) scM0_0 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (tbl m 0) (outsAt0 hO c n (Nat.lt_of_succ_lt hn)).2.2.2.2, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) scM0_0 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (tbl m 0) (outsAt0 hO c n (Nat.lt_of_succ_lt hn)).2.2.2.2)

/-- `outsAt0` at a point of case A: that case's contents. -/
theorem outsAt0_A (hO : Ok m) (c : Dev nD) (t : Fin (cfgM m hO).N) (h0 : t.val % 16 = 0) :
    outsAt0 m hO c t.val t.isLt = (out0_A_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0), out0_A_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0), out0_A_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0), out0_A_12 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0)) := by
  obtain ⟨n, hn⟩ := t
  cases n with
  | zero => exact rfl
  | succ n => exact (dif_pos h0).trans rfl

/-- `outsAt0` at a point of case B: that case's contents, over what the point before left. -/
theorem outsAt0_B (hO : Ok m) (c : Dev nD) (t : Fin (cfgM m hO).N) (h0 : ¬t.val % 16 = 0) :
    outsAt0 m hO c t.val t.isLt = (out0_B_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (outsAt0 m hO c (t.val - 1) (Nat.lt_of_le_of_lt (Nat.sub_le _ _) t.isLt)).2.2.2.2, out0_B_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (outsAt0 m hO c (t.val - 1) (Nat.lt_of_le_of_lt (Nat.sub_le _ _) t.isLt)).2.2.2.2, out0_B_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (outsAt0 m hO c (t.val - 1) (Nat.lt_of_le_of_lt (Nat.sub_le _ _) t.isLt)).2.2.2.2, out0_B_12 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (outsAt0 m hO c (t.val - 1) (Nat.lt_of_le_of_lt (Nat.sub_le _ _) t.isLt)).2.2.2.2, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (outsAt0 m hO c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2.2.2.2)) ∗ (∃ r, prngReg c r)) ∗ Pipeline.ΦT pre0 (tbl m) c)

/-- Before the first point, what the run holds is what the region starts with. -/
theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.2.2.2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.2.2.2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => (outsAt0 m hO c t.val t.isLt).1
    | ⟨10, _⟩ => (outsAt0 m hO c t.val t.isLt).2.1
    | ⟨11, _⟩ => (outsAt0 m hO c t.val t.isLt).2.2.1
    | ⟨12, _⟩ => (outsAt0 m hO c t.val t.isLt).2.2.2.1
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
/-- What the body leaves of window 1. -/
theorem after0_1 (hO : Ok m) (c : Dev nD) (t : Fin (cfgM m hO).N) : (dats m hO 0 c).after 1 t = iblk m hO c 1 t := by dsimp only [dats]; try rfl
/-- What the body leaves of window 2. -/
theorem after0_2 (hO : Ok m) (c : Dev nD) (t : Fin (cfgM m hO).N) : (dats m hO 0 c).after 2 t = iblk m hO c 2 t := by dsimp only [dats]; try rfl
/-- What the body leaves of window 3. -/
theorem after0_3 (hO : Ok m) (c : Dev nD) (t : Fin (cfgM m hO).N) : (dats m hO 0 c).after 3 t = iblk m hO c 3 t := by dsimp only [dats]; try rfl
/-- What the body leaves of window 4. -/
theorem after0_4 (hO : Ok m) (c : Dev nD) (t : Fin (cfgM m hO).N) : (dats m hO 0 c).after 4 t = iblk m hO c 4 t := by dsimp only [dats]; try rfl
/-- What the body leaves of window 5. -/
theorem after0_5 (hO : Ok m) (c : Dev nD) (t : Fin (cfgM m hO).N) : (dats m hO 0 c).after 5 t = iblk m hO c 5 t := by dsimp only [dats]; try rfl
/-- What the body leaves of window 6. -/
theorem after0_6 (hO : Ok m) (c : Dev nD) (t : Fin (cfgM m hO).N) : (dats m hO 0 c).after 6 t = iblk m hO c 6 t := by dsimp only [dats]; try rfl
/-- What the body leaves of window 7. -/
theorem after0_7 (hO : Ok m) (c : Dev nD) (t : Fin (cfgM m hO).N) : (dats m hO 0 c).after 7 t = iblk m hO c 7 t := by dsimp only [dats]; try rfl
/-- What the body leaves of window 8. -/
theorem after0_8 (hO : Ok m) (c : Dev nD) (t : Fin (cfgM m hO).N) : (dats m hO 0 c).after 8 t = iblk m hO c 8 t := by dsimp only [dats]; try rfl
/-- What the body leaves of window 9. -/
theorem after0_9 (hO : Ok m) (c : Dev nD) (t : Fin (cfgM m hO).N) : (dats m hO 0 c).after 9 t = (outsAt0 m hO c t.val t.isLt).1 := by dsimp only [dats]; try rfl
/-- What the body leaves of window 10. -/
theorem after0_10 (hO : Ok m) (c : Dev nD) (t : Fin (cfgM m hO).N) : (dats m hO 0 c).after 10 t = (outsAt0 m hO c t.val t.isLt).2.1 := by dsimp only [dats]; try rfl
/-- What the body leaves of window 11. -/
theorem after0_11 (hO : Ok m) (c : Dev nD) (t : Fin (cfgM m hO).N) : (dats m hO 0 c).after 11 t = (outsAt0 m hO c t.val t.isLt).2.2.1 := by dsimp only [dats]; try rfl
/-- What the body leaves of window 12. -/
theorem after0_12 (hO : Ok m) (c : Dev nD) (t : Fin (cfgM m hO).N) : (dats m hO 0 c).after 12 t = (outsAt0 m hO c t.val t.isLt).2.2.2.1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
/-- Window 1 holds its block at every point. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
/-- Window 2 holds its block at every point. -/
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
/-- Window 3 holds its block at every point. -/
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
/-- Window 4 holds its block at every point. -/
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
/-- Window 5 holds its block at every point. -/
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
/-- Window 6 holds its block at every point. -/
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
/-- Window 7 holds its block at every point. -/
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
/-- Window 8 holds its block at every point. -/
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8]
  rw [show (dats m hO 0 c).owesAt () t.succ = (dats m hO 0 c).owesAt () t.castSucc from rfl,
    after0_0, after0_1, after0_2, after0_3, after0_4, after0_5, after0_6, after0_7, after0_8, after0_9, after0_10, after0_11, after0_12]
  rw [show (dats m hO 0 c).Φ t.succ = PhiS m hO c (t.val + 1) t.isLt from rfl, PhiS_succ, PhiT0_eq]
  have hN : t.val < 16 := lt_of_lt_of_eq t.isLt (show (cfgM m hO).N = 16 from N_0)
  by_cases h0 : t.val % 16 = 0
  · by_cases hz : t.val = 0
    · rw [PhiS_castSucc m hO c t, PhiS_zero m hO c _ _ hz, PhiT0_eq, PhiA0_eq]
      rw [outsAt0_A m hO c t h0]
      unfold out0_A_9 out0_A_10 out0_A_11 out0_A_12 sout0_A_0; (try dsimp only)
      iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_A c (grid0.coords t) _ _ _ _ _ _ _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexists _; iexact H12
      isplitl [HS0]; · iexact HS0
      isplitl [HT0]; · iexact HT0
      iintro ⟨H0, H1, H2, H3, H4, H5, H6, H7, H8, ⟨%e9, H9⟩, ⟨%e10, H10⟩, ⟨%e11, H11⟩, ⟨%e12, H12⟩, ⟨%es0, HS0⟩, HT0⟩
      isplitl [HS0 Hg HT0]
      · isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _)
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _)
      unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _ _ _)
    · exfalso; have hN : t.val < 16 := lt_of_lt_of_eq t.isLt (show (cfgM m hO).N = 16 from N_0); omega
  · by_cases hz : t.val = 0
    · exfalso; have hN : t.val < 16 := lt_of_lt_of_eq t.isLt (show (cfgM m hO).N = 16 from N_0); omega
    · rw [PhiS_castSucc m hO c t, PhiS_pos m hO c _ _ hz, PhiT0_eq]
      rw [outsAt0_B m hO c t h0]
      unfold out0_B_9 out0_B_10 out0_B_11 out0_B_12 sout0_B_0; (try dsimp only)
      iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_B c (grid0.coords t) _ _ _ _ _ _ _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexists _; iexact H12
      isplitl [HS0]; · iexact HS0
      isplitl [HT0]; · iexact HT0
      iintro ⟨H0, H1, H2, H3, H4, H5, H6, H7, H8, ⟨%e9, H9⟩, ⟨%e10, H10⟩, ⟨%e11, H11⟩, ⟨%e12, H12⟩, HS0, HT0⟩
      isplitl [HS0 Hg HT0]
      · isplitl [HS0 Hg]
        · isplitl [HS0]
          · iexact HS0
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_B_10 c _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_B_11 c _ _ _ _ _ _ _ _ _ _ _ _ _ _ _ _ _ _ _ _ _ _ _ _ _ _ _ _ _ _ _ _ _ _ _ _ _ _ _ _ _)
      unfold owns; iexists _; isplitr
      swap; · iexact H12
      ipureintro; exact View.read_writes_of_cover _ _ _ _ _ (cover0_B_12 c _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 16 := N_0; omega)

/-! ## The run and the frame -/

-- `θ_run_frameP_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hin := hin m hO) (hout := hout m hO)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ hO (dats m hO) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ hO) ((θ_run defs _ _).mono (fun _ h => h.2) (run_main_quiescent m ρ hO))

end Cert.KernelIdeal.Gen

end
-- ==== Proof.Values.Blocks.lean ====
/- What one run of the kernel's body stores: each output's block, and the scratch, as the body's own operations on the
   blocks it loads — no staging buffer and no earlier contents in sight. -/
module

public import proofs.«01_k».proof.Proof.KernelIdeal.Frame
public import Idealize.ShloMosaic.Lib.Pointwise
public import Idealize.ShloMosaic.Lib.WholeRead
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.ShloMosaic.Pipeline (Dat Cfg Window)

variable {F : FTy → Type} [FloatOps F]

/-- The batch a grid point works on. -/
def batchOf (i : grid0.Coords) : Fin 16 := ⟨(i 0).val, (i 0).isLt⟩

/-- The sum of the first `k` length words, as the loop adds them. -/
def wordSum (w : Fin 16 → BitVec 32) : ℕ → BitVec 32
  | 0 => 0#32
  | k + 1 => if h : k < 16 then Scalar.addi (wordSum w k) (w ⟨k, h⟩) else wordSum w k

/-- The eight feature rows of batch `b`. -/
def rowsOf (x0 : Vec F S128x4096 .f32) (b : Fin 16) : Vec F S8x4096 .f32 := fun j =>
  x0 (ix2 ⟨b.val * 8 + (j 0).val, by have h : (j 0).val < 8 := (j 0).isLt; omega⟩ ⟨(j 1).val, (j 1).isLt⟩)

/-- Column `k` of the scratch. -/
def colOf (xs : Vec F S8x2 .f32) (k : Fin 2) : Vec F S8x1 .f32 := fun j => xs (ix2 ⟨(j 0).val, (j 0).isLt⟩ k)

/-- The two sums of every row: of the valid entries and of their squares. -/
def rowSums (w : Fin 16 → BitVec 32) (x0 : Vec F S128x4096 .f32) : FVec F S128x2 .f32 :=
  k0_pay12 (iota .tc S1x4096 32 [1] iota_S1x4096_d1_w32) (k0_pay7 x0) k0_pay8
    (k0_pay10 k0_pay8 (k0_pay9 (F := F) (w 0) (w 1) (w 2)) 3#32 (F := F) (w 3) (w 4) (w 5) (w 6) (w 7) (w 8) (w 9) (w 10))
    (k0_pay11 k0_pay8) (w 11) (w 12) (w 13) (w 14) (w 15)

/-- The statistics the first point leaves in the scratch: mean and scale of every feature. -/
def statsOf (w : Fin 16 → BitVec 32) (x0 : Vec F S128x4096 .f32) : Vec F S8x2 .f32 :=
  k0_pay15 (rowSums w x0)
    (k0_pay13 (iota .tc S1x4096 32 [1] iota_S1x4096_d1_w32) (k0_pay7 x0) k0_pay8
      (k0_pay10 k0_pay8 (k0_pay9 (F := F) (w 0) (w 1) (w 2)) 3#32 (F := F) (w 3) (w 4) (w 5) (w 6) (w 7) (w 8) (w 9) (w 10))
      (k0_pay11 k0_pay8) (w 11) (w 12) (w 13) (w 14) (w 15))
    (k0_pay14 (iota .tc S1x4096 32 [1] iota_S1x4096_d1_w32) (k0_pay7 x0) k0_pay8
      (k0_pay10 k0_pay8 (k0_pay9 (F := F) (w 0) (w 1) (w 2)) 3#32 (F := F) (w 3) (w 4) (w 5) (w 6) (w 7) (w 8) (w 9) (w 10))
      (k0_pay11 k0_pay8) (w 11) (w 12) (w 13) (w 14) (w 15))
    (wordSum w 16)

/-- The second layer before its rectifier. -/
def rawHid (l : BitVec 32) (xb : Vec F S8x4096 .f32) (xs : Vec F S8x2 .f32) (x1 : Vec F S8x64 .f32) (x2 : Vec F S1x64 .f32) (x3 : Vec F S64x64 .f32) (x4 : Vec F S1x64 .f32) : FVec F S64x4096 .f32 :=
  k0_pay17 (F := F) l xb (colOf xs 0) (colOf xs 1) x1 x2 x3 x4

/-- The logits before the mask. -/
def rawLogits (l : BitVec 32) (h : FVec F S64x4096 .f32) (x5 : Vec F S64x128 .f32) (x6 : Vec F S1x128 .f32) (x7 : Vec F S192x8 .f32) (x8 : Vec F S1x8 .f32) : FVec F S8x4096 .f32 :=
  k0_pay20 (F := F) (k0_pay16 (F := F) l) h x5 x6 x7 x8

/-- Reading one word of the table. -/
theorem read_word (c : Dev nD) (f : TbBuf0 (F := F) c tbM0_0) (off : Fin 1 → ℕ) (inb : ∀ a, off a + S1.size a ≤ S16.size a) (h : 0 < S1.numel)
    (b : Fin 16) (hb : off 0 = b.val) :
    View.readAt (Elt F) tbM0_0.view (Rect.unit (s := S16) off S1.size inb).toLoadRect f (Shape.Idx.first h) = f (ix1 b) := by
  refine congrArg f (funext fun a => Fin.ext ?_)
  match a with
  | ⟨0, _⟩ => show off 0 + 1 * 0 = b.val; omega

/-- The words the loop adds are the table's, in order. -/
theorem lenSum_eq (c : Dev nD) (i : grid0.Coords) (hc : k0_cond1 i = 1#1) (f : TbBuf0 (F := F) c tbM0_0) :
    ∀ k, lenSum c i hc f 0#32 k = wordSum (fun b => f (ix1 b)) k := by
  intro k
  induction k with
  | zero => rfl
  | succ k ih =>
    have e : k0_t1_loop.trips = 16 := by decide
    rw [lenSum, wordSum, ih]
    by_cases h : k < 16
    · rw [dif_pos (by rw [e]; exact h), dif_pos h]
      congr 1
      refine read_word c f _ _ _ ⟨k, h⟩ ?_
      exact (by decide : ∀ t : Fin k0_t1_loop.trips, k0_off1 t 0 = t.val) ⟨k, by rw [e]; exact h⟩
    · rw [dif_neg (by rw [e]; exact h), dif_neg h]

/-- The offset of the batch in the table of lengths. -/
theorem off2_eq (i : grid0.Coords) : k0_off2 i 0 = (batchOf i).val := by
  exact (by decide : ∀ b : Fin 16, (Scalar.indexCast (BitVec.ofNat 32 b.val) : Index).toNat = b.val) (batchOf i)

/-- The first of the batch's eight rows. -/
theorem off3_eq (i : grid0.Coords) : k0_off3 i 0 = (batchOf i).val * 8 := by
  exact (by decide : ∀ b : Fin 16, (Scalar.indexCast (Scalar.muli (BitVec.ofNat 32 b.val) 8#32) : Index).toNat = b.val * 8) (batchOf i)

/-- Reading a whole block. -/
theorem read_whole {S : Shape} {e : EltTy} (M : Memref sig .tc .vmem S e) (hM : M.IsWhole) (X : Vec F S e) {off : Fin S.rank → ℕ} (h : off = fun _ => 0)
    (inb : ∀ a, off a + S.size a ≤ S.size a) : View.readAt (Elt F) M.view (Rect.unit off S.size inb).toLoadRect (hM.unread X) = X := by
  funext j
  rw [Memref.IsWhole.readAt_unread]
  exact congrFun (View.ld_unit_zero (Val := Elt F) h inb X) j

/-- The two zero offsets. -/
theorem zero2 : (![0, 0] : Fin 2 → ℕ) = fun _ => 0 := funext fun a => by fin_cases a <;> rfl
/-- The three zero offsets. -/
theorem zero3 : (![0, 0, 0] : Fin 3 → ℕ) = fun _ => 0 := funext fun a => by fin_cases a <;> rfl

/-- Reading the batch's rows. -/
theorem read_rows (i : grid0.Coords) (M : Memref sig .tc .vmem S128x4096 .f32) (hM : M.IsWhole) (X : Vec F S128x4096 .f32)
    (inb : ∀ a, k0_off3 i a + S8x4096.size a ≤ S128x4096.size a) :
    View.readAt (Elt F) M.view (Rect.unit (s := S128x4096) (k0_off3 i) S8x4096.size inb).toLoadRect (hM.unread X) = rowsOf X (batchOf i) := by
  funext j
  rw [Memref.IsWhole.readAt_unread]
  refine congrArg X (funext fun a => Fin.ext ?_)
  match a with
  | ⟨0, _⟩ => show k0_off3 i 0 + 1 * (j 0).val = (batchOf i).val * 8 + (j 0).val; rw [off3_eq]; omega
  | ⟨1, _⟩ => show 0 + 1 * (j 1).val = (j 1).val; omega

/-- Reading a column of the scratch. -/
theorem read_col (M : Memref sig .tc .vmem S8x2 .f32) (hM : M.IsWhole) (X : Vec F S8x2 .f32) (k : Fin 2) (off : Fin 2 → ℕ) (h : off = ![0, k.val])
    (inb : ∀ a, off a + S8x1.size a ≤ S8x2.size a) :
    View.readAt (Elt F) M.view (Rect.unit (s := S8x2) off S8x1.size inb).toLoadRect (hM.unread X) = colOf X k := by
  subst h
  funext j
  rw [Memref.IsWhole.readAt_unread]
  refine congrArg X (funext fun a => Fin.ext ?_)
  match a with
  | ⟨0, _⟩ => show 0 + 1 * (j 0).val = (j 0).val; omega
  | ⟨1, _⟩ => show k.val + 1 * (j 1).val = k.val; have : (j 1).val < 1 := (j 1).isLt; omega

/-- What the first point leaves in the scratch. -/
theorem sout_A_eq (c : Dev nD) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (hc0 : cond0_0 i)
    (x0 : Vec F S128x4096 .f32) (x1 : Vec F S8x64 .f32) (x2 : Vec F S1x64 .f32) (x3 : Vec F S64x64 .f32) (x4 : Vec F S1x64 .f32) (x5 : Vec F S64x128 .f32) (x6 : Vec F S1x128 .f32) (x7 : Vec F S192x8 .f32) (x8 : Vec F S1x8 .f32) (xt0 : TbBuf0 (F := F) c tbM0_0) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 = statsOf (fun b => xt0 (ix1 b)) x0 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0)]
  unfold kernelRun0_A
  dsimp only [kernelRun0_A.sl.HS0_1]
  rw [View.canon_unit_zero zero2]
  unfold kernelRun0_A.sl.r_16 kernelRun0_A.sl.r_17 kernelRun0_A.sl.r_18 statsOf rowSums
  have e0 : kernelRun0_A.sl.v111 c arg2 harg2 x0 = k0_pay7 x0 := by
    unfold kernelRun0_A.sl.v111
    rw [read_whole arg2 harg2 x0 zero2]; rfl
  have e1 : kernelRun0_A.sl.v192 c xt0 = k0_pay10 k0_pay8 (k0_pay9 (F := F) (xt0 (ix1 0)) (xt0 (ix1 1)) (xt0 (ix1 2))) 3#32 (F := F) (xt0 (ix1 3)) (xt0 (ix1 4)) (xt0 (ix1 5)) (xt0 (ix1 6)) (xt0 (ix1 7)) (xt0 (ix1 8)) (xt0 (ix1 9)) (xt0 (ix1 10)) := by
    have h0 : kernelRun0_A.sl.r c xt0 = xt0 (ix1 0) := read_word c xt0 _ _ _ 0 rfl
    have h1 : kernelRun0_A.sl.r_1 c xt0 = xt0 (ix1 1) := read_word c xt0 _ _ _ 1 rfl
    have h2 : kernelRun0_A.sl.r_2 c xt0 = xt0 (ix1 2) := read_word c xt0 _ _ _ 2 rfl
    have h3 : kernelRun0_A.sl.r_3 c xt0 = xt0 (ix1 3) := read_word c xt0 _ _ _ 3 rfl
    have h4 : kernelRun0_A.sl.r_4 c xt0 = xt0 (ix1 4) := read_word c xt0 _ _ _ 4 rfl
    have h5 : kernelRun0_A.sl.r_5 c xt0 = xt0 (ix1 5) := read_word c xt0 _ _ _ 5 rfl
    have h6 : kernelRun0_A.sl.r_6 c xt0 = xt0 (ix1 6) := read_word c xt0 _ _ _ 6 rfl
    have h7 : kernelRun0_A.sl.r_7 c xt0 = xt0 (ix1 7) := read_word c xt0 _ _ _ 7 rfl
    have h8 : kernelRun0_A.sl.r_8 c xt0 = xt0 (ix1 8) := read_word c xt0 _ _ _ 8 rfl
    have h9 : kernelRun0_A.sl.r_9 c xt0 = xt0 (ix1 9) := read_word c xt0 _ _ _ 9 rfl
    have h10 : kernelRun0_A.sl.r_10 c xt0 = xt0 (ix1 10) := read_word c xt0 _ _ _ 10 rfl
    rw [← h0, ← h1, ← h2, ← h3, ← h4, ← h5, ← h6, ← h7, ← h8, ← h9, ← h10]
    rfl
  have h11 : kernelRun0_A.sl.r_11 c xt0 = xt0 (ix1 11) := read_word c xt0 _ _ _ 11 rfl
  have h12 : kernelRun0_A.sl.r_12 c xt0 = xt0 (ix1 12) := read_word c xt0 _ _ _ 12 rfl
  have h13 : kernelRun0_A.sl.r_13 c xt0 = xt0 (ix1 13) := read_word c xt0 _ _ _ 13 rfl
  have h14 : kernelRun0_A.sl.r_14 c xt0 = xt0 (ix1 14) := read_word c xt0 _ _ _ 14 rfl
  have h15 : kernelRun0_A.sl.r_15 c xt0 = xt0 (ix1 15) := read_word c xt0 _ _ _ 15 rfl
  rw [e0, e1, h11, h12, h13, h14, h15]
  refine (congrArg (k0_pay15 _ _ _) (lenSum_eq c i hc0 xt0 _)).trans ?_
  rfl

/-- The scratch's two columns as the first point reads them back. -/
theorem cols_A (c : Dev nD) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (hc0 : cond0_0 i)
    (x0 : Vec F S128x4096 .f32) (x1 : Vec F S8x64 .f32) (x2 : Vec F S1x64 .f32) (x3 : Vec F S64x64 .f32) (x4 : Vec F S1x64 .f32) (x5 : Vec F S64x128 .f32) (x6 : Vec F S1x128 .f32) (x7 : Vec F S192x8 .f32) (x8 : Vec F S1x8 .f32) (xt0 : TbBuf0 (F := F) c tbM0_0) :
    kernelRun0_A.sl.v12 c i arg2 harg2 arg15 hc0 x0 xt0 = colOf (statsOf (fun b => xt0 (ix1 b)) x0) 0
      ∧ kernelRun0_A.sl.v13 c i arg2 harg2 arg15 hc0 x0 xt0 = colOf (statsOf (fun b => xt0 (ix1 b)) x0) 1 := by
  have hcov := scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0
  have hs := sout_A_eq c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0
  unfold sout0_A_0 at hs
  rw [View.read_writes_eq_canon _ _ _ hcov] at hs
  unfold kernelRun0_A at hs hcov
  dsimp only at hs hcov
  unfold kernelRun0_A.sl.v12 kernelRun0_A.sl.v13
  rw [View.readCov_eq_canon _ _ _ (fun j => hcov _), View.readCov_eq_canon _ _ _ (fun j => hcov _), hs]
  constructor
  · funext j
    refine congrArg _ (funext fun a => Fin.ext ?_)
    match a with
    | ⟨0, _⟩ => show 0 + 1 * (j 0).val = (j 0).val; omega
    | ⟨1, _⟩ => show 0 + 1 * (j 1).val = 0; have : (j 1).val < 1 := (j 1).isLt; omega
  · funext j
    refine congrArg _ (funext fun a => Fin.ext ?_)
    match a with
    | ⟨0, _⟩ => show 0 + 1 * (j 0).val = (j 0).val; omega
    | ⟨1, _⟩ => show 1 + 1 * (j 1).val = 1; have : (j 1).val < 1 := (j 1).isLt; omega

/-- The second layer at a point of case A. -/
theorem hid_A (c : Dev nD) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (hc0 : cond0_0 i)
    (x0 : Vec F S128x4096 .f32) (x1 : Vec F S8x64 .f32) (x2 : Vec F S1x64 .f32) (x3 : Vec F S64x64 .f32) (x4 : Vec F S1x64 .f32) (x5 : Vec F S64x128 .f32) (x6 : Vec F S1x128 .f32) (x7 : Vec F S192x8 .f32) (x8 : Vec F S1x8 .f32) (xt0 : TbBuf0 (F := F) c tbM0_0) :
    kernelRun0_A.sl.r_21 c i arg2 harg2 arg3 harg3 arg4 harg4 arg5 harg5 arg6 harg6 arg15 hc0 x0 x1 x2 x3 x4 xt0 = rawHid (xt0 (ix1 (batchOf i))) (rowsOf x0 (batchOf i)) (statsOf (fun b => xt0 (ix1 b)) x0) x1 x2 x3 x4 := by
  have hl : kernelRun0_A.sl.r_19 c i xt0 = xt0 (ix1 (batchOf i)) := read_word c xt0 _ _ _ (batchOf i) (off2_eq i)
  unfold kernelRun0_A.sl.r_21 rawHid
  rw [hl, read_rows i, read_whole arg3 harg3 x1 zero2, read_whole arg4 harg4 x2 zero2, read_whole arg5 harg5 x3 zero2, read_whole arg6 harg6 x4 zero2]
  rw [(cols_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0).1, (cols_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0).2]

/-- What a point of case A leaves in output 9's block. -/
theorem out_A_9_eq (c : Dev nD) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (hc0 : cond0_0 i)
    (x0 : Vec F S128x4096 .f32) (x1 : Vec F S8x64 .f32) (x2 : Vec F S1x64 .f32) (x3 : Vec F S64x64 .f32) (x4 : Vec F S1x64 .f32) (x5 : Vec F S64x128 .f32) (x6 : Vec F S1x128 .f32) (x7 : Vec F S192x8 .f32) (x8 : Vec F S1x8 .f32) (xt0 : TbBuf0 (F := F) c tbM0_0) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 = k0_pay2 (rawLogits (xt0 (ix1 (batchOf i))) (rawHid (xt0 (ix1 (batchOf i))) (rowsOf x0 (batchOf i)) (statsOf (fun b => xt0 (ix1 b)) x0) x1 x2 x3 x4) x5 x6 x7 x8) (FloatOps.ofBits .f32 0x00000000#32) (k0_pay21 (k0_pay16 (F := F) (xt0 (ix1 (batchOf i))))) := by
  have hl : kernelRun0_A.sl.r_19 c i xt0 = xt0 (ix1 (batchOf i)) := read_word c xt0 _ _ _ (batchOf i) (off2_eq i)
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0)]
  unfold kernelRun0_A
  dsimp only
  rw [View.canon_unit_zero zero3]
  unfold kernelRun0_A.sl.r_22 kernelRun0_A.sl.r_23 kernelRun0_A.sl.r_20 kernelRun0_A.sl.cst_34 rawLogits
  rw [hid_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0, hl, read_whole arg7 harg7 x5 zero2, read_whole arg8 harg8 x6 zero2, read_whole arg9 harg9 x7 zero2, read_whole arg10 harg10 x8 zero2]

/-- What a point of case A leaves in output 10's block. -/
theorem out_A_10_eq (c : Dev nD) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (hc0 : cond0_0 i)
    (x0 : Vec F S128x4096 .f32) (x1 : Vec F S8x64 .f32) (x2 : Vec F S1x64 .f32) (x3 : Vec F S64x64 .f32) (x4 : Vec F S1x64 .f32) (x5 : Vec F S64x128 .f32) (x6 : Vec F S1x128 .f32) (x7 : Vec F S192x8 .f32) (x8 : Vec F S1x8 .f32) (xt0 : TbBuf0 (F := F) c tbM0_0) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 = k0_pay5 (rawLogits (xt0 (ix1 (batchOf i))) (rawHid (xt0 (ix1 (batchOf i))) (rowsOf x0 (batchOf i)) (statsOf (fun b => xt0 (ix1 b)) x0) x1 x2 x3 x4) x5 x6 x7 x8) (FloatOps.ofBits .f32 0x00000000#32) (k0_pay21 (k0_pay16 (F := F) (xt0 (ix1 (batchOf i))))) := by
  have hl : kernelRun0_A.sl.r_19 c i xt0 = xt0 (ix1 (batchOf i)) := read_word c xt0 _ _ _ (batchOf i) (off2_eq i)
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0)]
  unfold kernelRun0_A
  dsimp only
  rw [View.canon_unit_zero zero3]
  unfold kernelRun0_A.sl.r_22 kernelRun0_A.sl.r_23 kernelRun0_A.sl.r_20 kernelRun0_A.sl.cst_34 rawLogits
  rw [hid_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0, hl, read_whole arg7 harg7 x5 zero2, read_whole arg8 harg8 x6 zero2, read_whole arg9 harg9 x7 zero2, read_whole arg10 harg10 x8 zero2]

/-- What a point of case A leaves in output 11's block. -/
theorem out_A_11_eq (c : Dev nD) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (hc0 : cond0_0 i)
    (x0 : Vec F S128x4096 .f32) (x1 : Vec F S8x64 .f32) (x2 : Vec F S1x64 .f32) (x3 : Vec F S64x64 .f32) (x4 : Vec F S1x64 .f32) (x5 : Vec F S64x128 .f32) (x6 : Vec F S1x128 .f32) (x7 : Vec F S192x8 .f32) (x8 : Vec F S1x8 .f32) (xt0 : TbBuf0 (F := F) c tbM0_0) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 = k0_pay6 (rawLogits (xt0 (ix1 (batchOf i))) (rawHid (xt0 (ix1 (batchOf i))) (rowsOf x0 (batchOf i)) (statsOf (fun b => xt0 (ix1 b)) x0) x1 x2 x3 x4) x5 x6 x7 x8) (FloatOps.ofBits .f32 0x00000000#32) (k0_pay21 (k0_pay16 (F := F) (xt0 (ix1 (batchOf i))))) := by
  have hl : kernelRun0_A.sl.r_19 c i xt0 = xt0 (ix1 (batchOf i)) := read_word c xt0 _ _ _ (batchOf i) (off2_eq i)
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0)]
  unfold kernelRun0_A
  dsimp only
  rw [View.canon_unit_zero zero3]
  unfold kernelRun0_A.sl.r_22 kernelRun0_A.sl.r_23 kernelRun0_A.sl.r_20 kernelRun0_A.sl.cst_34 rawLogits
  rw [hid_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0, hl, read_whole arg7 harg7 x5 zero2, read_whole arg8 harg8 x6 zero2, read_whole arg9 harg9 x7 zero2, read_whole arg10 harg10 x8 zero2]

/-- What a point of case A leaves in output 12's block. -/
theorem out_A_12_eq (c : Dev nD) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (hc0 : cond0_0 i)
    (x0 : Vec F S128x4096 .f32) (x1 : Vec F S8x64 .f32) (x2 : Vec F S1x64 .f32) (x3 : Vec F S64x64 .f32) (x4 : Vec F S1x64 .f32) (x5 : Vec F S64x128 .f32) (x6 : Vec F S1x128 .f32) (x7 : Vec F S192x8 .f32) (x8 : Vec F S1x8 .f32) (xt0 : TbBuf0 (F := F) c tbM0_0) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 = k0_pay19 (k0_pay16 (F := F) (xt0 (ix1 (batchOf i)))) (rawHid (xt0 (ix1 (batchOf i))) (rowsOf x0 (batchOf i)) (statsOf (fun b => xt0 (ix1 b)) x0) x1 x2 x3 x4) x5 x6 := by
  have hl : kernelRun0_A.sl.r_19 c i xt0 = xt0 (ix1 (batchOf i)) := read_word c xt0 _ _ _ (batchOf i) (off2_eq i)
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0)]
  unfold kernelRun0_A
  dsimp only
  rw [View.canon_unit_zero zero3]
  unfold kernelRun0_A.sl.r_20
  rw [hid_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0, hl, read_whole arg7 harg7 x5 zero2, read_whole arg8 harg8 x6 zero2]

/-- The second layer at a point of case B. -/
theorem hid_B (c : Dev nD) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (hc0 : ¬cond0_0 i)
    (x0 : Vec F S128x4096 .f32) (x1 : Vec F S8x64 .f32) (x2 : Vec F S1x64 .f32) (x3 : Vec F S64x64 .f32) (x4 : Vec F S1x64 .f32) (x5 : Vec F S64x128 .f32) (x6 : Vec F S1x128 .f32) (x7 : Vec F S192x8 .f32) (x8 : Vec F S1x8 .f32) (xt0 : TbBuf0 (F := F) c tbM0_0) (xs0 : Vec F S8x2 .f32) :
    kernelRun0_B.sl.r_2 c i arg2 harg2 arg3 harg3 arg4 harg4 arg5 harg5 arg6 harg6 arg15 harg15 x0 x1 x2 x3 x4 xt0 xs0 = rawHid (xt0 (ix1 (batchOf i))) (rowsOf x0 (batchOf i)) xs0 x1 x2 x3 x4 := by
  have hl : kernelRun0_B.sl.r c i xt0 = xt0 (ix1 (batchOf i)) := read_word c xt0 _ _ _ (batchOf i) (off2_eq i)
  unfold kernelRun0_B.sl.r_2 rawHid
  rw [hl, read_rows i, read_whole arg3 harg3 x1 zero2, read_whole arg4 harg4 x2 zero2, read_whole arg5 harg5 x3 zero2, read_whole arg6 harg6 x4 zero2]
  rw [read_col arg15 harg15 xs0 0 ![0, 0] rfl, read_col arg15 harg15 xs0 1 ![0, 1] rfl]

/-- What a point of case B leaves in output 9's block. -/
theorem out_B_9_eq (c : Dev nD) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (hc0 : ¬cond0_0 i)
    (x0 : Vec F S128x4096 .f32) (x1 : Vec F S8x64 .f32) (x2 : Vec F S1x64 .f32) (x3 : Vec F S64x64 .f32) (x4 : Vec F S1x64 .f32) (x5 : Vec F S64x128 .f32) (x6 : Vec F S1x128 .f32) (x7 : Vec F S192x8 .f32) (x8 : Vec F S1x8 .f32) (xt0 : TbBuf0 (F := F) c tbM0_0) (xs0 : Vec F S8x2 .f32) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 = k0_pay2 (rawLogits (xt0 (ix1 (batchOf i))) (rawHid (xt0 (ix1 (batchOf i))) (rowsOf x0 (batchOf i)) xs0 x1 x2 x3 x4) x5 x6 x7 x8) (FloatOps.ofBits .f32 0x00000000#32) (k0_pay21 (k0_pay16 (F := F) (xt0 (ix1 (batchOf i))))) := by
  have hl : kernelRun0_B.sl.r c i xt0 = xt0 (ix1 (batchOf i)) := read_word c xt0 _ _ _ (batchOf i) (off2_eq i)
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0)]
  unfold kernelRun0_B
  dsimp only
  rw [View.canon_unit_zero zero3]
  unfold kernelRun0_B.sl.r_3 kernelRun0_B.sl.r_4 kernelRun0_B.sl.r_1 kernelRun0_B.sl.cst_34 rawLogits
  rw [hid_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0, hl, read_whole arg7 harg7 x5 zero2, read_whole arg8 harg8 x6 zero2, read_whole arg9 harg9 x7 zero2, read_whole arg10 harg10 x8 zero2]

/-- What a point of case B leaves in output 10's block. -/
theorem out_B_10_eq (c : Dev nD) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (hc0 : ¬cond0_0 i)
    (x0 : Vec F S128x4096 .f32) (x1 : Vec F S8x64 .f32) (x2 : Vec F S1x64 .f32) (x3 : Vec F S64x64 .f32) (x4 : Vec F S1x64 .f32) (x5 : Vec F S64x128 .f32) (x6 : Vec F S1x128 .f32) (x7 : Vec F S192x8 .f32) (x8 : Vec F S1x8 .f32) (xt0 : TbBuf0 (F := F) c tbM0_0) (xs0 : Vec F S8x2 .f32) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 = k0_pay5 (rawLogits (xt0 (ix1 (batchOf i))) (rawHid (xt0 (ix1 (batchOf i))) (rowsOf x0 (batchOf i)) xs0 x1 x2 x3 x4) x5 x6 x7 x8) (FloatOps.ofBits .f32 0x00000000#32) (k0_pay21 (k0_pay16 (F := F) (xt0 (ix1 (batchOf i))))) := by
  have hl : kernelRun0_B.sl.r c i xt0 = xt0 (ix1 (batchOf i)) := read_word c xt0 _ _ _ (batchOf i) (off2_eq i)
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0)]
  unfold kernelRun0_B
  dsimp only
  rw [View.canon_unit_zero zero3]
  unfold kernelRun0_B.sl.r_3 kernelRun0_B.sl.r_4 kernelRun0_B.sl.r_1 kernelRun0_B.sl.cst_34 rawLogits
  rw [hid_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0, hl, read_whole arg7 harg7 x5 zero2, read_whole arg8 harg8 x6 zero2, read_whole arg9 harg9 x7 zero2, read_whole arg10 harg10 x8 zero2]

/-- What a point of case B leaves in output 11's block. -/
theorem out_B_11_eq (c : Dev nD) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (hc0 : ¬cond0_0 i)
    (x0 : Vec F S128x4096 .f32) (x1 : Vec F S8x64 .f32) (x2 : Vec F S1x64 .f32) (x3 : Vec F S64x64 .f32) (x4 : Vec F S1x64 .f32) (x5 : Vec F S64x128 .f32) (x6 : Vec F S1x128 .f32) (x7 : Vec F S192x8 .f32) (x8 : Vec F S1x8 .f32) (xt0 : TbBuf0 (F := F) c tbM0_0) (xs0 : Vec F S8x2 .f32) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 = k0_pay6 (rawLogits (xt0 (ix1 (batchOf i))) (rawHid (xt0 (ix1 (batchOf i))) (rowsOf x0 (batchOf i)) xs0 x1 x2 x3 x4) x5 x6 x7 x8) (FloatOps.ofBits .f32 0x00000000#32) (k0_pay21 (k0_pay16 (F := F) (xt0 (ix1 (batchOf i))))) := by
  have hl : kernelRun0_B.sl.r c i xt0 = xt0 (ix1 (batchOf i)) := read_word c xt0 _ _ _ (batchOf i) (off2_eq i)
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0)]
  unfold kernelRun0_B
  dsimp only
  rw [View.canon_unit_zero zero3]
  unfold kernelRun0_B.sl.r_3 kernelRun0_B.sl.r_4 kernelRun0_B.sl.r_1 kernelRun0_B.sl.cst_34 rawLogits
  rw [hid_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0, hl, read_whole arg7 harg7 x5 zero2, read_whole arg8 harg8 x6 zero2, read_whole arg9 harg9 x7 zero2, read_whole arg10 harg10 x8 zero2]

/-- What a point of case B leaves in output 12's block. -/
theorem out_B_12_eq (c : Dev nD) (i : grid0.Coords) (arg2 : Memref sig .tc .vmem S128x4096 .f32) (harg2 : arg2.IsWhole) (arg3 : Memref sig .tc .vmem S8x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S192x8 .f32) (harg9 : arg9.IsWhole) (arg10 : Memref sig .tc .vmem S1x8 .f32) (harg10 : arg10.IsWhole) (arg11 : Memref sig .tc .vmem S1x8x4096 .f32) (harg11 : arg11.IsWhole) (arg12 : Memref sig .tc .vmem S1x1x4096 .i32) (harg12 : arg12.IsWhole) (arg13 : Memref sig .tc .vmem S1x1x4096 .f32) (harg13 : arg13.IsWhole) (arg14 : Memref sig .tc .vmem S1x192x4096 .f32) (harg14 : arg14.IsWhole) (arg15 : Memref sig .tc .vmem S8x2 .f32) (harg15 : arg15.IsWhole) (hc0 : ¬cond0_0 i)
    (x0 : Vec F S128x4096 .f32) (x1 : Vec F S8x64 .f32) (x2 : Vec F S1x64 .f32) (x3 : Vec F S64x64 .f32) (x4 : Vec F S1x64 .f32) (x5 : Vec F S64x128 .f32) (x6 : Vec F S1x128 .f32) (x7 : Vec F S192x8 .f32) (x8 : Vec F S1x8 .f32) (xt0 : TbBuf0 (F := F) c tbM0_0) (xs0 : Vec F S8x2 .f32) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 = k0_pay19 (k0_pay16 (F := F) (xt0 (ix1 (batchOf i)))) (rawHid (xt0 (ix1 (batchOf i))) (rowsOf x0 (batchOf i)) xs0 x1 x2 x3 x4) x5 x6 := by
  have hl : kernelRun0_B.sl.r c i xt0 = xt0 (ix1 (batchOf i)) := read_word c xt0 _ _ _ (batchOf i) (off2_eq i)
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0)]
  unfold kernelRun0_B
  dsimp only
  rw [View.canon_unit_zero zero3]
  unfold kernelRun0_B.sl.r_1
  rw [hid_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0, hl, read_whole arg7 harg7 x5 zero2, read_whole arg8 harg8 x6 zero2]

end Cert.KernelIdeal.Gen
end
-- ==== Proof.Values.Steps.lean ====
/- What the kernel's scratch and output blocks hold after each grid point, in terms of the arrays the launch finds. -/
module

public import proofs.«01_k».proof.Proof.Values.Blocks

@[expose] public section

set_option maxRecDepth 16384

noncomputable section

namespace Cert.KernelIdeal.Gen

open Idealize.ShloMosaic Idealize.ShloMosaic.TcCoe Idealize.ShloMosaic.Tactic
open Idealize.ShloMosaic.Pipeline (Dat Cfg Window)

variable {F : FTy → Type} [FloatOps F]
variable (m : (ℓ : Loc nD τ sig) → Buf (Elt F) ℓ)

/-- The number of valid positions the launch finds for batch `b`. -/
def lenOf (b : Fin 16) : BitVec 32 := tbl m 0 (ix1 b)

/-- The per-channel mean and scale the first point leaves in the scratch. -/
def statsK (c : Dev nD) : Vec F S8x2 .f32 := statsOf (lenOf m) (V m c main_v1)

/-- Batch `b`'s hidden rows before the mask and the last rectifier. -/
def hidK (c : Dev nD) (b : Fin 16) : Vec F S64x4096 .f32 :=
  rawHid (lenOf m b) (rowsOf (V m c main_v1) b) (statsK m c) (V m c main_arg2) (V m c main_v2) (V m c main_arg4) (V m c main_v3)

/-- Batch `b`'s logits before the mask. -/
def logitsK (c : Dev nD) (b : Fin 16) : Vec F S8x4096 .f32 :=
  rawLogits (lenOf m b) (hidK m c b) (V m c main_arg6) (V m c main_v4) (V m c main_arg8) (V m c main_v5)

/-- The zero the kernel puts where the mask is off. -/
abbrev zeroK : F .f32 := FloatOps.ofBits .f32 0x00000000#32

/-- Batch `b`'s mask, broadcast over the classes. -/
abbrev maskK (b : Fin 16) := k0_pay21 (k0_pay16 (F := F) (lenOf m b))

/-- Input window 0's one block is its whole array. -/
theorem iblk_0 (hO : Ok m) (c : Dev nD) (t : Fin (cfgM m hO).N) : iblk m hO c 0 t = V m c main_v1 := by
  refine funext fun (j : S128x4096.Idx) => ?_
  show V m c main_v1 _ = V m c main_v1 j
  refine congrArg _ (funext fun a => Fin.ext ?_)
  match a with
  | ⟨0, _⟩ => show 0 * _ + 1 * (j 0).val = (j 0).val; omega
  | ⟨1, _⟩ => show 0 * _ + 1 * (j 1).val = (j 1).val; omega

/-- Input window 1's one block is its whole array. -/
theorem iblk_1 (hO : Ok m) (c : Dev nD) (t : Fin (cfgM m hO).N) : iblk m hO c 1 t = V m c main_arg2 := by
  refine funext fun (j : S8x64.Idx) => ?_
  show V m c main_arg2 _ = V m c main_arg2 j
  refine congrArg _ (funext fun a => Fin.ext ?_)
  match a with
  | ⟨0, _⟩ => show 0 * _ + 1 * (j 0).val = (j 0).val; omega
  | ⟨1, _⟩ => show 0 * _ + 1 * (j 1).val = (j 1).val; omega

/-- Input window 2's one block is its whole array. -/
theorem iblk_2 (hO : Ok m) (c : Dev nD) (t : Fin (cfgM m hO).N) : iblk m hO c 2 t = V m c main_v2 := by
  refine funext fun (j : S1x64.Idx) => ?_
  show V m c main_v2 _ = V m c main_v2 j
  refine congrArg _ (funext fun a => Fin.ext ?_)
  match a with
  | ⟨0, _⟩ => show 0 * _ + 1 * (j 0).val = (j 0).val; omega
  | ⟨1, _⟩ => show 0 * _ + 1 * (j 1).val = (j 1).val; omega

/-- Input window 3's one block is its whole array. -/
theorem iblk_3 (hO : Ok m) (c : Dev nD) (t : Fin (cfgM m hO).N) : iblk m hO c 3 t = V m c main_arg4 := by
  refine funext fun (j : S64x64.Idx) => ?_
  show V m c main_arg4 _ = V m c main_arg4 j
  refine congrArg _ (funext fun a => Fin.ext ?_)
  match a with
  | ⟨0, _⟩ => show 0 * _ + 1 * (j 0).val = (j 0).val; omega
  | ⟨1, _⟩ => show 0 * _ + 1 * (j 1).val = (j 1).val; omega

/-- Input window 4's one block is its whole array. -/
theorem iblk_4 (hO : Ok m) (c : Dev nD) (t : Fin (cfgM m hO).N) : iblk m hO c 4 t = V m c main_v3 := by
  refine funext fun (j : S1x64.Idx) => ?_
  show V m c main_v3 _ = V m c main_v3 j
  refine congrArg _ (funext fun a => Fin.ext ?_)
  match a with
  | ⟨0, _⟩ => show 0 * _ + 1 * (j 0).val = (j 0).val; omega
  | ⟨1, _⟩ => show 0 * _ + 1 * (j 1).val = (j 1).val; omega

/-- Input window 5's one block is its whole array. -/
theorem iblk_5 (hO : Ok m) (c : Dev nD) (t : Fin (cfgM m hO).N) : iblk m hO c 5 t = V m c main_arg6 := by
  refine funext fun (j : S64x128.Idx) => ?_
  show V m c main_arg6 _ = V m c main_arg6 j
  refine congrArg _ (funext fun a => Fin.ext ?_)
  match a with
  | ⟨0, _⟩ => show 0 * _ + 1 * (j 0).val = (j 0).val; omega
  | ⟨1, _⟩ => show 0 * _ + 1 * (j 1).val = (j 1).val; omega

/-- Input window 6's one block is its whole array. -/
theorem iblk_6 (hO : Ok m) (c : Dev nD) (t : Fin (cfgM m hO).N) : iblk m hO c 6 t = V m c main_v4 := by
  refine funext fun (j : S1x128.Idx) => ?_
  show V m c main_v4 _ = V m c main_v4 j
  refine congrArg _ (funext fun a => Fin.ext ?_)
  match a with
  | ⟨0, _⟩ => show 0 * _ + 1 * (j 0).val = (j 0).val; omega
  | ⟨1, _⟩ => show 0 * _ + 1 * (j 1).val = (j 1).val; omega

/-- Input window 7's one block is its whole array. -/
theorem iblk_7 (hO : Ok m) (c : Dev nD) (t : Fin (cfgM m hO).N) : iblk m hO c 7 t = V m c main_arg8 := by
  refine funext fun (j : S192x8.Idx) => ?_
  show V m c main_arg8 _ = V m c main_arg8 j
  refine congrArg _ (funext fun a => Fin.ext ?_)
  match a with
  | ⟨0, _⟩ => show 0 * _ + 1 * (j 0).val = (j 0).val; omega
  | ⟨1, _⟩ => show 0 * _ + 1 * (j 1).val = (j 1).val; omega

/-- Input window 8's one block is its whole array. -/
theorem iblk_8 (hO : Ok m) (c : Dev nD) (t : Fin (cfgM m hO).N) : iblk m hO c 8 t = V m c main_v5 := by
  refine funext fun (j : S1x8.Idx) => ?_
  show V m c main_v5 _ = V m c main_v5 j
  refine congrArg _ (funext fun a => Fin.ext ?_)
  match a with
  | ⟨0, _⟩ => show 0 * _ + 1 * (j 0).val = (j 0).val; omega
  | ⟨1, _⟩ => show 0 * _ + 1 * (j 1).val = (j 1).val; omega

/-- What the four output blocks and the scratch hold after a point, at batch `b`. -/
def leftK (c : Dev nD) (b : Fin 16) : Vec F S1x8x4096 .f32 × Vec F S1x1x4096 .i32 × Vec F S1x1x4096 .f32 × Vec F S1x192x4096 .f32 × Vec F S8x2 .f32 :=
  (k0_pay2 (logitsK m c b) zeroK (maskK m b), k0_pay5 (logitsK m c b) zeroK (maskK m b), k0_pay6 (logitsK m c b) zeroK (maskK m b),
    k0_pay19 (k0_pay16 (F := F) (lenOf m b)) (hidK m c b) (V m c main_arg6) (V m c main_v4), statsK m c)

/-- A first point leaves that, whatever the scratch held. -/
theorem left_A (hO : Ok m) (c : Dev nD) (t : Fin (cfgM m hO).N) (h : t.val % 16 = 0) :
    outsAt0 m hO c t.val t.isLt = leftK m c (batchOf (grid0.coords t)) := by
  rw [outsAt0_A m hO c t h, iblk_0 m hO c t, iblk_1 m hO c t, iblk_2 m hO c t, iblk_3 m hO c t, iblk_4 m hO c t, iblk_5 m hO c t, iblk_6 m hO c t, iblk_7 m hO c t, iblk_8 m hO c t]
  have h9 := out_A_9_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) ((hcond0_0 t).mpr h) (V m c main_v1) (V m c main_arg2) (V m c main_v2) (V m c main_arg4) (V m c main_v3) (V m c main_arg6) (V m c main_v4) (V m c main_arg8) (V m c main_v5) (tbl m 0)
  have h10 := out_A_10_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) ((hcond0_0 t).mpr h) (V m c main_v1) (V m c main_arg2) (V m c main_v2) (V m c main_arg4) (V m c main_v3) (V m c main_arg6) (V m c main_v4) (V m c main_arg8) (V m c main_v5) (tbl m 0)
  have h11 := out_A_11_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) ((hcond0_0 t).mpr h) (V m c main_v1) (V m c main_arg2) (V m c main_v2) (V m c main_arg4) (V m c main_v3) (V m c main_arg6) (V m c main_v4) (V m c main_arg8) (V m c main_v5) (tbl m 0)
  have h12 := out_A_12_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) ((hcond0_0 t).mpr h) (V m c main_v1) (V m c main_arg2) (V m c main_v2) (V m c main_arg4) (V m c main_v3) (V m c main_arg6) (V m c main_v4) (V m c main_arg8) (V m c main_v5) (tbl m 0)
  have hs := sout_A_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) ((hcond0_0 t).mpr h) (V m c main_v1) (V m c main_arg2) (V m c main_v2) (V m c main_arg4) (V m c main_v3) (V m c main_arg6) (V m c main_v4) (V m c main_arg8) (V m c main_v5) (tbl m 0)
  rw [h9, h10, h11, h12, hs]
  unfold leftK logitsK hidK statsK lenOf
  rfl

/-- A later point leaves that when the scratch holds the statistics. -/
theorem left_B (hO : Ok m) (c : Dev nD) (t : Fin (cfgM m hO).N) (h : ¬t.val % 16 = 0)
    (hS : (outsAt0 m hO c (t.val - 1) (Nat.lt_of_le_of_lt (Nat.sub_le _ _) t.isLt)).2.2.2.2 = statsK m c) :
    outsAt0 m hO c t.val t.isLt = leftK m c (batchOf (grid0.coords t)) := by
  rw [outsAt0_B m hO c t h, hS, iblk_0 m hO c t, iblk_1 m hO c t, iblk_2 m hO c t, iblk_3 m hO c t, iblk_4 m hO c t, iblk_5 m hO c t, iblk_6 m hO c t, iblk_7 m hO c t, iblk_8 m hO c t]
  have h9 := out_B_9_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (fun h' => h ((hcond0_0 t).mp h')) (V m c main_v1) (V m c main_arg2) (V m c main_v2) (V m c main_arg4) (V m c main_v3) (V m c main_arg6) (V m c main_v4) (V m c main_arg8) (V m c main_v5) (tbl m 0) (statsK m c)
  have h10 := out_B_10_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (fun h' => h ((hcond0_0 t).mp h')) (V m c main_v1) (V m c main_arg2) (V m c main_v2) (V m c main_arg4) (V m c main_v3) (V m c main_arg6) (V m c main_v4) (V m c main_arg8) (V m c main_v5) (tbl m 0) (statsK m c)
  have h11 := out_B_11_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (fun h' => h ((hcond0_0 t).mp h')) (V m c main_v1) (V m c main_arg2) (V m c main_v2) (V m c main_arg4) (V m c main_v3) (V m c main_arg6) (V m c main_v4) (V m c main_arg8) (V m c main_v5) (tbl m 0) (statsK m c)
  have h12 := out_B_12_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (fun h' => h ((hcond0_0 t).mp h')) (V m c main_v1) (V m c main_arg2) (V m c main_v2) (V m c main_arg4) (V m c main_v3) (V m c main_arg6) (V m c main_v4) (V m c main_arg8) (V m c main_v5) (tbl m 0) (statsK m c)
  rw [h9, h10, h11, h12]
  unfold leftK logitsK hidK statsK lenOf
  rfl

/-- So every point leaves it: the scratch keeps the first point's statistics. -/
theorem left_eq (hO : Ok m) (c : Dev nD) (n : ℕ) (hn : n < (cfgM m hO).N) :
    outsAt0 m hO c n hn = leftK m c (batchOf (grid0.coords ⟨n, hn⟩)) := by
  induction n with
  | zero => exact left_A m hO c ⟨0, hn⟩ rfl
  | succ n ih =>
    by_cases h : (n + 1) % 16 = 0
    · exact left_A m hO c ⟨n + 1, hn⟩ h
    · exact left_B m hO c ⟨n + 1, hn⟩ h (by
        show (outsAt0 m hO c n _).2.2.2.2 = _
        rw [ih (Nat.lt_of_succ_lt hn)]; rfl)

end Cert.KernelIdeal.Gen
end
-- ==== Proof.Values.Arrays.lean ====
/- What the four output arrays hold after the launch, and what the kernel's results hold after the transposes behind it. -/
module

public import proofs.«01_k».proof.Proof.Values.Steps
public import Idealize.ShloMosaic.Lib.StableHlo.ReadAt

@[expose] public section

set_option maxRecDepth 16384

noncomputable section

namespace Cert.KernelIdeal.Gen

open Idealize.ShloMosaic Idealize.ShloMosaic.TcCoe Idealize.ShloMosaic.Tactic
open Idealize.ShloMosaic.Pipeline (Dat Cfg Window)

variable {F : FTy → Type} [FloatOps F]
variable (m : (ℓ : Loc nD τ sig) → Buf (Elt F) ℓ)

/-- The block index of every output at a point is the point's own number. -/
theorem coord_val : ∀ t : Fin grid0.N, ((grid0.coords t) 0).val = t.val := by decide +kernel

/-- The windows' arrays are pairwise distinct. -/
theorem arrays_distinct : Function.Injective (Pipeline.arrRef spec0) := by decide

/-- What batch `b`'s point leaves in output 9's block. -/
def left9 (c : Dev nD) (b : Fin 16) : Vec F S1x8x4096 .f32 := (leftK m c b).1

/-- Output 9's array: batch by batch that block. -/
def arr9 (c : Dev nD) : Vec F S16x8x4096 .f32 := fun i => left9 m c (i 0) (ix3 0 (i 1) (i 2))

/-- Output 9's block index at a point. -/
theorem index_9 : ∀ t : Fin grid0.N, cc0_transform_9 (grid0.coords t) 0 = (grid0.coords t 0).val := by decide +kernel

/-- What point `t` writes back to output 9 is that array read through the point's block. -/
theorem flushed_9 (hO : Ok m) (c : Dev nD) (t : Fin (cfgM m hO).N) :
    (dats m hO 0 c).flushed 9 t = (((cfgM m hO).win 9).blk t).view.read (Elt F) (arr9 m c) := by
  show ((cfgM m hO).win 9).cut (grid0.coords t) ((dats m hO 0 c).after 9 t) = _
  rw [after0_9, left_eq]
  refine funext fun (j : S1x8x4096.Idx) => ?_
  have ej : j = ix3 0 (j 1) (j 2) := by
    funext a
    match a with
    | ⟨0, _⟩ => exact Fin.ext (by have h : (j 0).val < 1 := (j 0).isLt; show (j 0).val = 0; omega)
    | ⟨1, _⟩ => rfl
    | ⟨2, _⟩ => rfl
  refine Eq.trans (b := arr9 m c (ix3 (batchOf (grid0.coords t)) (j 1) (j 2))) ?_ (congrArg (arr9 m c) (funext fun a => Fin.ext ?_))
  · exact congrArg (left9 m c (batchOf (grid0.coords t))) ej
  · match a with
    | ⟨0, _⟩ =>
      have h : (j 0).val < 1 := (j 0).isLt
      show (grid0.coords t 0).val = cc0_transform_9 (grid0.coords t) 0 * 1 + 1 * (j 0).val
      rw [index_9]; omega
    | ⟨1, _⟩ => show (j 1).val = 0 * 8 + 1 * (j 1).val; omega
    | ⟨2, _⟩ => show (j 2).val = 0 * 4096 + 1 * (j 2).val; omega

/-- Every element of output 9's array lies in the block of its batch's point. -/
theorem cover_9 (hO : Ok m) (c : Dev nD) (i : S16x8x4096.Idx) :
    ∃ t : Fin (cfgM m hO).N, ((cfgM m hO).win 9).flush t = true ∧ i ∈ (((cfgM m hO).win 9).blk t).view.set := by
  have h0 : (i 0).val < 16 := (i 0).isLt
  obtain ⟨t, ht⟩ : ∃ t : Fin grid0.N, t.val = (i 0).val := ⟨⟨(i 0).val, by rw [N_0]; omega⟩, rfl⟩
  refine ⟨t, flush0_9 _ t, ?_⟩
  show i ∈ ((View.whole main_v6_0).slice (((cfgM m hO).win 9).rect t)).set
  set_option backward.isDefEq.respectTransparency false in rw [View.set_slice_whole, Rect.mem_set_unit]
  intro a
  match a with
  | ⟨0, _⟩ =>
    show cc0_transform_9 (grid0.coords t) 0 * 1 ≤ (i 0).val ∧ (i 0).val < cc0_transform_9 (grid0.coords t) 0 * 1 + 1
    rw [index_9, coord_val, ht]; omega
  | ⟨1, _⟩ =>
    have h : (i 1).val < 8 := (i 1).isLt
    show 0 * 8 ≤ (i 1).val ∧ (i 1).val < 0 * 8 + 8; omega
  | ⟨2, _⟩ =>
    have h : (i 2).val < 4096 := (i 2).isLt
    show 0 * 4096 ≤ (i 2).val ∧ (i 2).val < 0 * 4096 + 4096; omega

/-- So output 9's array ends holding it. -/
theorem final_9 (hO : Ok m) (c : Dev nD) : (dats m hO 0 c).arrAt 9 (cfgM m hO).N = arr9 m c :=
  (dats m hO 0 c).arrAt_eq_of_cover 9 (arr9 m c) (fun t _ => flushed_9 m hO c t) (cover_9 m hO c)

/-- And the result behind it is its transpose. -/
theorem tail_9 (hO : Ok m) (c : Dev nD) (b : Fin 16) (s : Fin 4096) (k : Fin 8) :
    Pipeline.afterTail pcfgs (fun _ => adm m hO) (dats m hO) 0 (V0 m) [hostOps1] c main_v7 (ix3 b s k)
      = arr9 m c (ix3 b k s) := by
  unfold Pipeline.afterTail
  rw [← final_9 m hO c]
  simp only [List.flatten_cons, List.flatten_nil, List.append_nil]
  after_reads_at
  exact congrFun (Pipeline.withArrays_arr spec0 arrays_distinct c (V0 m c) (fun w => (dats m hO 0 c).arrAt w (cfgM m hO).N) 9) _

/-- What batch `b`'s point leaves in output 10's block. -/
def left10 (c : Dev nD) (b : Fin 16) : Vec F S1x1x4096 .i32 := (leftK m c b).2.1

/-- Output 10's array: batch by batch that block. -/
def arr10 (c : Dev nD) : Vec F S16x1x4096 .i32 := fun i => left10 m c (i 0) (ix3 0 (i 1) (i 2))

/-- Output 10's block index at a point. -/
theorem index_10 : ∀ t : Fin grid0.N, cc0_transform_10 (grid0.coords t) 0 = (grid0.coords t 0).val := by decide +kernel

/-- What point `t` writes back to output 10 is that array read through the point's block. -/
theorem flushed_10 (hO : Ok m) (c : Dev nD) (t : Fin (cfgM m hO).N) :
    (dats m hO 0 c).flushed 10 t = (((cfgM m hO).win 10).blk t).view.read (Elt F) (arr10 m c) := by
  show ((cfgM m hO).win 10).cut (grid0.coords t) ((dats m hO 0 c).after 10 t) = _
  rw [after0_10, left_eq]
  refine funext fun (j : S1x1x4096.Idx) => ?_
  have ej : j = ix3 0 (j 1) (j 2) := by
    funext a
    match a with
    | ⟨0, _⟩ => exact Fin.ext (by have h : (j 0).val < 1 := (j 0).isLt; show (j 0).val = 0; omega)
    | ⟨1, _⟩ => rfl
    | ⟨2, _⟩ => rfl
  refine Eq.trans (b := arr10 m c (ix3 (batchOf (grid0.coords t)) (j 1) (j 2))) ?_ (congrArg (arr10 m c) (funext fun a => Fin.ext ?_))
  · exact congrArg (left10 m c (batchOf (grid0.coords t))) ej
  · match a with
    | ⟨0, _⟩ =>
      have h : (j 0).val < 1 := (j 0).isLt
      show (grid0.coords t 0).val = cc0_transform_10 (grid0.coords t) 0 * 1 + 1 * (j 0).val
      rw [index_10]; omega
    | ⟨1, _⟩ => show (j 1).val = 0 * 1 + 1 * (j 1).val; omega
    | ⟨2, _⟩ => show (j 2).val = 0 * 4096 + 1 * (j 2).val; omega

/-- Every element of output 10's array lies in the block of its batch's point. -/
theorem cover_10 (hO : Ok m) (c : Dev nD) (i : S16x1x4096.Idx) :
    ∃ t : Fin (cfgM m hO).N, ((cfgM m hO).win 10).flush t = true ∧ i ∈ (((cfgM m hO).win 10).blk t).view.set := by
  have h0 : (i 0).val < 16 := (i 0).isLt
  obtain ⟨t, ht⟩ : ∃ t : Fin grid0.N, t.val = (i 0).val := ⟨⟨(i 0).val, by rw [N_0]; omega⟩, rfl⟩
  refine ⟨t, flush0_10 _ t, ?_⟩
  show i ∈ ((View.whole main_v6_1).slice (((cfgM m hO).win 10).rect t)).set
  set_option backward.isDefEq.respectTransparency false in rw [View.set_slice_whole, Rect.mem_set_unit]
  intro a
  match a with
  | ⟨0, _⟩ =>
    show cc0_transform_10 (grid0.coords t) 0 * 1 ≤ (i 0).val ∧ (i 0).val < cc0_transform_10 (grid0.coords t) 0 * 1 + 1
    rw [index_10, coord_val, ht]; omega
  | ⟨1, _⟩ =>
    have h : (i 1).val < 1 := (i 1).isLt
    show 0 * 1 ≤ (i 1).val ∧ (i 1).val < 0 * 1 + 1; omega
  | ⟨2, _⟩ =>
    have h : (i 2).val < 4096 := (i 2).isLt
    show 0 * 4096 ≤ (i 2).val ∧ (i 2).val < 0 * 4096 + 4096; omega

/-- So output 10's array ends holding it. -/
theorem final_10 (hO : Ok m) (c : Dev nD) : (dats m hO 0 c).arrAt 10 (cfgM m hO).N = arr10 m c :=
  (dats m hO 0 c).arrAt_eq_of_cover 10 (arr10 m c) (fun t _ => flushed_10 m hO c t) (cover_10 m hO c)

/-- And the result behind it is its transpose. -/
theorem tail_10 (hO : Ok m) (c : Dev nD) (b : Fin 16) (s : Fin 4096) (k : Fin 1) :
    Pipeline.afterTail pcfgs (fun _ => adm m hO) (dats m hO) 0 (V0 m) [hostOps1] c main_v8 (ix3 b s k)
      = arr10 m c (ix3 b k s) := by
  obtain rfl : k = 0 := Subsingleton.elim _ _
  unfold Pipeline.afterTail
  rw [← final_10 m hO c]
  simp only [List.flatten_cons, List.flatten_nil, List.append_nil]
  after_reads_at
  exact congrFun (Pipeline.withArrays_arr spec0 arrays_distinct c (V0 m c) (fun w => (dats m hO 0 c).arrAt w (cfgM m hO).N) 10) _

/-- What batch `b`'s point leaves in output 11's block. -/
def left11 (c : Dev nD) (b : Fin 16) : Vec F S1x1x4096 .f32 := (leftK m c b).2.2.1

/-- Output 11's array: batch by batch that block. -/
def arr11 (c : Dev nD) : Vec F S16x1x4096 .f32 := fun i => left11 m c (i 0) (ix3 0 (i 1) (i 2))

/-- Output 11's block index at a point. -/
theorem index_11 : ∀ t : Fin grid0.N, cc0_transform_11 (grid0.coords t) 0 = (grid0.coords t 0).val := by decide +kernel

/-- What point `t` writes back to output 11 is that array read through the point's block. -/
theorem flushed_11 (hO : Ok m) (c : Dev nD) (t : Fin (cfgM m hO).N) :
    (dats m hO 0 c).flushed 11 t = (((cfgM m hO).win 11).blk t).view.read (Elt F) (arr11 m c) := by
  show ((cfgM m hO).win 11).cut (grid0.coords t) ((dats m hO 0 c).after 11 t) = _
  rw [after0_11, left_eq]
  refine funext fun (j : S1x1x4096.Idx) => ?_
  have ej : j = ix3 0 (j 1) (j 2) := by
    funext a
    match a with
    | ⟨0, _⟩ => exact Fin.ext (by have h : (j 0).val < 1 := (j 0).isLt; show (j 0).val = 0; omega)
    | ⟨1, _⟩ => rfl
    | ⟨2, _⟩ => rfl
  refine Eq.trans (b := arr11 m c (ix3 (batchOf (grid0.coords t)) (j 1) (j 2))) ?_ (congrArg (arr11 m c) (funext fun a => Fin.ext ?_))
  · exact congrArg (left11 m c (batchOf (grid0.coords t))) ej
  · match a with
    | ⟨0, _⟩ =>
      have h : (j 0).val < 1 := (j 0).isLt
      show (grid0.coords t 0).val = cc0_transform_11 (grid0.coords t) 0 * 1 + 1 * (j 0).val
      rw [index_11]; omega
    | ⟨1, _⟩ => show (j 1).val = 0 * 1 + 1 * (j 1).val; omega
    | ⟨2, _⟩ => show (j 2).val = 0 * 4096 + 1 * (j 2).val; omega

/-- Every element of output 11's array lies in the block of its batch's point. -/
theorem cover_11 (hO : Ok m) (c : Dev nD) (i : S16x1x4096.Idx) :
    ∃ t : Fin (cfgM m hO).N, ((cfgM m hO).win 11).flush t = true ∧ i ∈ (((cfgM m hO).win 11).blk t).view.set := by
  have h0 : (i 0).val < 16 := (i 0).isLt
  obtain ⟨t, ht⟩ : ∃ t : Fin grid0.N, t.val = (i 0).val := ⟨⟨(i 0).val, by rw [N_0]; omega⟩, rfl⟩
  refine ⟨t, flush0_11 _ t, ?_⟩
  show i ∈ ((View.whole main_v6_2).slice (((cfgM m hO).win 11).rect t)).set
  set_option backward.isDefEq.respectTransparency false in rw [View.set_slice_whole, Rect.mem_set_unit]
  intro a
  match a with
  | ⟨0, _⟩ =>
    show cc0_transform_11 (grid0.coords t) 0 * 1 ≤ (i 0).val ∧ (i 0).val < cc0_transform_11 (grid0.coords t) 0 * 1 + 1
    rw [index_11, coord_val, ht]; omega
  | ⟨1, _⟩ =>
    have h : (i 1).val < 1 := (i 1).isLt
    show 0 * 1 ≤ (i 1).val ∧ (i 1).val < 0 * 1 + 1; omega
  | ⟨2, _⟩ =>
    have h : (i 2).val < 4096 := (i 2).isLt
    show 0 * 4096 ≤ (i 2).val ∧ (i 2).val < 0 * 4096 + 4096; omega

/-- So output 11's array ends holding it. -/
theorem final_11 (hO : Ok m) (c : Dev nD) : (dats m hO 0 c).arrAt 11 (cfgM m hO).N = arr11 m c :=
  (dats m hO 0 c).arrAt_eq_of_cover 11 (arr11 m c) (fun t _ => flushed_11 m hO c t) (cover_11 m hO c)

/-- And the result behind it is its transpose. -/
theorem tail_11 (hO : Ok m) (c : Dev nD) (b : Fin 16) (s : Fin 4096) (k : Fin 1) :
    Pipeline.afterTail pcfgs (fun _ => adm m hO) (dats m hO) 0 (V0 m) [hostOps1] c main_v9 (ix3 b s k)
      = arr11 m c (ix3 b k s) := by
  obtain rfl : k = 0 := Subsingleton.elim _ _
  unfold Pipeline.afterTail
  rw [← final_11 m hO c]
  simp only [List.flatten_cons, List.flatten_nil, List.append_nil]
  after_reads_at
  exact congrFun (Pipeline.withArrays_arr spec0 arrays_distinct c (V0 m c) (fun w => (dats m hO 0 c).arrAt w (cfgM m hO).N) 11) _

/-- What batch `b`'s point leaves in output 12's block. -/
def left12 (c : Dev nD) (b : Fin 16) : Vec F S1x192x4096 .f32 := (leftK m c b).2.2.2.1

/-- Output 12's array: batch by batch that block. -/
def arr12 (c : Dev nD) : Vec F S16x192x4096 .f32 := fun i => left12 m c (i 0) (ix3 0 (i 1) (i 2))

/-- Output 12's block index at a point. -/
theorem index_12 : ∀ t : Fin grid0.N, cc0_transform_12 (grid0.coords t) 0 = (grid0.coords t 0).val := by decide +kernel

/-- What point `t` writes back to output 12 is that array read through the point's block. -/
theorem flushed_12 (hO : Ok m) (c : Dev nD) (t : Fin (cfgM m hO).N) :
    (dats m hO 0 c).flushed 12 t = (((cfgM m hO).win 12).blk t).view.read (Elt F) (arr12 m c) := by
  show ((cfgM m hO).win 12).cut (grid0.coords t) ((dats m hO 0 c).after 12 t) = _
  rw [after0_12, left_eq]
  refine funext fun (j : S1x192x4096.Idx) => ?_
  have ej : j = ix3 0 (j 1) (j 2) := by
    funext a
    match a with
    | ⟨0, _⟩ => exact Fin.ext (by have h : (j 0).val < 1 := (j 0).isLt; show (j 0).val = 0; omega)
    | ⟨1, _⟩ => rfl
    | ⟨2, _⟩ => rfl
  refine Eq.trans (b := arr12 m c (ix3 (batchOf (grid0.coords t)) (j 1) (j 2))) ?_ (congrArg (arr12 m c) (funext fun a => Fin.ext ?_))
  · exact congrArg (left12 m c (batchOf (grid0.coords t))) ej
  · match a with
    | ⟨0, _⟩ =>
      have h : (j 0).val < 1 := (j 0).isLt
      show (grid0.coords t 0).val = cc0_transform_12 (grid0.coords t) 0 * 1 + 1 * (j 0).val
      rw [index_12]; omega
    | ⟨1, _⟩ => show (j 1).val = 0 * 192 + 1 * (j 1).val; omega
    | ⟨2, _⟩ => show (j 2).val = 0 * 4096 + 1 * (j 2).val; omega

/-- Every element of output 12's array lies in the block of its batch's point. -/
theorem cover_12 (hO : Ok m) (c : Dev nD) (i : S16x192x4096.Idx) :
    ∃ t : Fin (cfgM m hO).N, ((cfgM m hO).win 12).flush t = true ∧ i ∈ (((cfgM m hO).win 12).blk t).view.set := by
  have h0 : (i 0).val < 16 := (i 0).isLt
  obtain ⟨t, ht⟩ : ∃ t : Fin grid0.N, t.val = (i 0).val := ⟨⟨(i 0).val, by rw [N_0]; omega⟩, rfl⟩
  refine ⟨t, flush0_12 _ t, ?_⟩
  show i ∈ ((View.whole main_v6_3).slice (((cfgM m hO).win 12).rect t)).set
  set_option backward.isDefEq.respectTransparency false in rw [View.set_slice_whole, Rect.mem_set_unit]
  intro a
  match a with
  | ⟨0, _⟩ =>
    show cc0_transform_12 (grid0.coords t) 0 * 1 ≤ (i 0).val ∧ (i 0).val < cc0_transform_12 (grid0.coords t) 0 * 1 + 1
    rw [index_12, coord_val, ht]; omega
  | ⟨1, _⟩ =>
    have h : (i 1).val < 192 := (i 1).isLt
    show 0 * 192 ≤ (i 1).val ∧ (i 1).val < 0 * 192 + 192; omega
  | ⟨2, _⟩ =>
    have h : (i 2).val < 4096 := (i 2).isLt
    show 0 * 4096 ≤ (i 2).val ∧ (i 2).val < 0 * 4096 + 4096; omega

/-- So output 12's array ends holding it. -/
theorem final_12 (hO : Ok m) (c : Dev nD) : (dats m hO 0 c).arrAt 12 (cfgM m hO).N = arr12 m c :=
  (dats m hO 0 c).arrAt_eq_of_cover 12 (arr12 m c) (fun t _ => flushed_12 m hO c t) (cover_12 m hO c)

/-- And the result behind it is its transpose. -/
theorem tail_12 (hO : Ok m) (c : Dev nD) (b : Fin 16) (s : Fin 4096) (k : Fin 192) :
    Pipeline.afterTail pcfgs (fun _ => adm m hO) (dats m hO) 0 (V0 m) [hostOps1] c main_v10 (ix3 b s k)
      = arr12 m c (ix3 b k s) := by
  unfold Pipeline.afterTail
  rw [← final_12 m hO c]
  simp only [List.flatten_cons, List.flatten_nil, List.append_nil]
  after_reads_at
  exact congrFun (Pipeline.withArrays_arr spec0 arrays_distinct c (V0 m c) (fun w => (dats m hO 0 c).arrAt w (cfgM m hO).N) 12) _

end Cert.KernelIdeal.Gen
end
-- ==== Proof.Values.Inputs.lean ====
/- What the operations before the launch make of the arguments, entry by entry. -/
module

public import proofs.«01_k».proof.Proof.Values.Steps
public import Idealize.ShloMosaic.Lib.StableHlo.ReadAt

@[expose] public section

set_option maxRecDepth 16384

noncomputable section

namespace Cert.KernelIdeal.Gen

open Idealize.ShloMosaic Idealize.ShloMosaic.TcCoe Idealize.ShloMosaic.Tactic

variable {F : FTy → Type} [FloatOps F]
variable (m : (ℓ : Loc nD τ sig) → Buf (Elt F) ℓ) (c : Dev nD)

/-- There are 128 input rows. -/
theorem row_lt (b : Fin 16) (d : Fin 8) : 8 * b.val + d.val < 128 := by omega

/-- Row `8 b + d` of the input rows is channel `d` of batch `b`. -/
theorem rows_apply (b : Fin 16) (d : Fin 8) (s : Fin 4096) :
    V m c main_v1 (ix2 ⟨8 * b.val + d.val, row_lt b d⟩ s) = m ((c : Thread nD τ).loc main_arg0) (ix3 b s d) := by
  unfold V
  after_reads_at

/-- The first layer's bias row. -/
theorem bias_3 (e : Fin 64) : V m c main_v2 (ix2 0 e) = m ((c : Thread nD τ).loc main_arg3) (ix1 e) := by
  unfold V
  after_reads_at

/-- The second layer's bias row. -/
theorem bias_5 (e : Fin 64) : V m c main_v3 (ix2 0 e) = m ((c : Thread nD τ).loc main_arg5) (ix1 e) := by
  unfold V
  after_reads_at

/-- The global layer's bias row. -/
theorem bias_7 (e : Fin 128) : V m c main_v4 (ix2 0 e) = m ((c : Thread nD τ).loc main_arg7) (ix1 e) := by
  unfold V
  after_reads_at

/-- The last layer's bias row. -/
theorem bias_9 (e : Fin 8) : V m c main_v5 (ix2 0 e) = m ((c : Thread nD τ).loc main_arg9) (ix1 e) := by
  unfold V
  after_reads_at

end Cert.KernelIdeal.Gen
end
-- ==== Proof.Values.Model.lean ====
/- The segmentation head as plain mathematics on extended reals: what both programs compute from the normalised input. -/
module

public import Idealize.ShloMosaic.Lib.Pointwise

@[expose] public section

noncomputable section

namespace Cert.Model

open Idealize.ShloMosaic

/-- The parameters of the head, entry by entry. -/
structure Params where
  w1 : Fin 8 → Fin 64 → EReal
  b1 : Fin 64 → EReal
  w2 : Fin 64 → Fin 64 → EReal
  b2 : Fin 64 → EReal
  wg : Fin 64 → Fin 128 → EReal
  bg : Fin 128 → EReal
  ws : Fin 192 → Fin 8 → EReal
  bs : Fin 8 → EReal

/-- The value a maximum starts from. -/
def floorVal : EReal := Ideal.ofBits .f32 4286578688#32

/-- Whether position `s` is one of the first `len`. -/
def mask (len : BitVec 32) (s : Fin 4096) : BitVec 1 := IntOp.cmpi .slt (BitVec.ofNat 32 s.val) len

variable (p : Params) (μ : Fin 4096 → BitVec 1) (x : Fin 4096 → Fin 8 → EReal)

/-- The first layer, rectified. -/
def hid1 (s : Fin 4096) (e : Fin 64) : EReal := max (∑ d, Scalar.select (μ s) (x s d) 0 * p.w1 d e + p.b1 e) 0

/-- The second layer before its rectifier. -/
def pre (s : Fin 4096) (e : Fin 64) : EReal := ∑ d, hid1 p μ x s d * p.w2 d e + p.b2 e

/-- The second layer, rectified and masked. -/
def hid (s : Fin 4096) (e : Fin 64) : EReal := Scalar.select (μ s) (max (pre p μ x s e) 0) 0

/-- The global layer at one position, rectified. -/
def glob (s : Fin 4096) (g : Fin 128) : EReal := max (∑ e, hid p μ x s e * p.wg e g + p.bg g) 0

/-- The global feature: the maximum over the valid positions. -/
def globMax (g : Fin 128) : EReal :=
  Finset.fold max floorVal (fun s => Scalar.select (μ s) (glob p μ x s g) floorVal) Finset.univ

/-- A position's features: its hidden ones, then the masked global ones. -/
def feat (s : Fin 4096) (k : Fin 192) : EReal :=
  if h : k.val < 64 then hid p μ x s ⟨k.val, h⟩ else Scalar.select (μ s) (globMax p μ x ⟨k.val - 64, by omega⟩) 0

/-- The masked class scores. -/
def logit (s : Fin 4096) (k : Fin 8) : EReal := Scalar.select (μ s) (∑ f, feat p μ x s f * p.ws f k + p.bs k) 0

/-- The largest of eight scores. -/
def top (y : Fin 8 → EReal) : EReal := Finset.fold max floorVal y Finset.univ

/-- The softmax of eight scores. -/
def soft (y : Fin 8 → EReal) (k : Fin 8) : EReal :=
  Ideal.div (Ideal.exp (y k - top y)) (∑ j, Ideal.exp (y j - top y))

/-- The first of the eight scores that is as large as the largest. -/
def firstTop (y : Fin 8 → EReal) : BitVec 32 :=
  Finset.fold IntOp.minsi 2147483647#32 (fun j : Fin 8 => if top y ≤ y j then BitVec.ofNat 32 j.val else 8#32) Finset.univ

/-- Swapping a factor into a mask. -/
theorem select_mul (c : BitVec 1) (w v : EReal) : Scalar.select c (w * v) 0 = Scalar.select c v 0 * w := by
  unfold Scalar.select; split
  · exact mul_comm w v
  · exact (zero_mul w).symm

end Cert.Model
end
-- ==== Proof.Values.Kernel.lean ====
/- What the kernel's output blocks hold, element by element, in terms of the model. -/
module

public import proofs.«01_k».proof.Proof.Values.Arrays
public import proofs.«01_k».proof.Proof.Values.Model

@[expose] public section

set_option maxRecDepth 16384

noncomputable section

namespace Cert.KernelIdeal.Gen

open Idealize.ShloMosaic Idealize.ShloMosaic.TcCoe Idealize.ShloMosaic.Tactic
open Cert.Model (Params floorVal mask hid1 pre hid glob globMax feat logit top soft firstTop select_mul)

/-- The parameters read off the kernel's weight blocks. -/
def params (x1 : Vec Ideal S8x64 .f32) (x2 : Vec Ideal S1x64 .f32) (x3 : Vec Ideal S64x64 .f32) (x4 : Vec Ideal S1x64 .f32)
    (x5 : Vec Ideal S64x128 .f32) (x6 : Vec Ideal S1x128 .f32) (x7 : Vec Ideal S192x8 .f32) (x8 : Vec Ideal S1x8 .f32) : Params where
  w1 d e := x1 (ix2 d e)
  b1 e := x2 (ix2 0 e)
  w2 d e := x3 (ix2 d e)
  b2 e := x4 (ix2 0 e)
  wg d e := x5 (ix2 d e)
  bg e := x6 (ix2 0 e)
  ws d e := x7 (ix2 d e)
  bs e := x8 (ix2 0 e)

/-- The input of one batch, normalised with the scratch's mean and scale. -/
def normed (xb : Vec Ideal S8x4096 .f32) (st : Vec Ideal S8x2 .f32) (s : Fin 4096) (d : Fin 8) : EReal :=
  (xb (ix2 d s) - st (ix2 d 0)) * st (ix2 d 1)

variable (l : BitVec 32) (xb : Vec Ideal S8x4096 .f32) (st : Vec Ideal S8x2 .f32)
  (x1 : Vec Ideal S8x64 .f32) (x2 : Vec Ideal S1x64 .f32) (x3 : Vec Ideal S64x64 .f32) (x4 : Vec Ideal S1x64 .f32)
  (x5 : Vec Ideal S64x128 .f32) (x6 : Vec Ideal S1x128 .f32) (x7 : Vec Ideal S192x8 .f32) (x8 : Vec Ideal S1x8 .f32)

/-- The mask row. -/
theorem mask_apply (s : Fin 4096) : k0_pay16 (F := Ideal) l (ix2 0 s) = mask l s := by
  pointwise [k0_pay16]
  rfl

/-- A column of the statistics, entry by entry. -/
theorem col_apply (k : Fin 2) (d : Fin 8) : colOf st k (ix2 d 0) = st (ix2 d k) := rfl

/-- The second layer's block. -/
theorem rawHid_apply (e : Fin 64) (s : Fin 4096) :
    rawHid l xb st x1 x2 x3 x4 (ix2 e s)
      = pre (params x1 x2 x3 x4 x5 x6 x7 x8) (mask l) (normed xb st) s e := by
  unfold rawHid
  pointwise [k0_pay17, k0_pay16]
  refine congrArg₂ (· + ·) (Finset.sum_congr rfl fun d _ => (mul_comm _ _).trans ?_) rfl
  exact congrArg (fun v : EReal => max (v + x2 (ix2 0 d)) 0 * x3 (ix2 d e)) (Finset.sum_congr rfl fun k _ => select_mul _ _ _)

variable (h : FVec Ideal S64x4096 .f32) (x : Fin 4096 → Fin 8 → EReal)

/-- The features' block, when the second layer's is the model's. -/
theorem feat_apply (hh : ∀ e s, h (ix2 e s) = pre (params x1 x2 x3 x4 x5 x6 x7 x8) (mask l) x s e) (k : Fin 192) (s : Fin 4096) :
    k0_pay18 (k0_pay16 (F := Ideal) l) h x5 x6 (ix2 k s) = feat (params x1 x2 x3 x4 x5 x6 x7 x8) (mask l) x s k := by
  pointwise [k0_pay18]
  unfold feat globMax glob hid floorVal
  simp only [mask_apply, hh, select_mul]
  rfl

/-- The written features are these. -/
theorem feat_block (k : Fin 192) (s : Fin 4096) :
    k0_pay19 (k0_pay16 (F := Ideal) l) h x5 x6 (ix3 0 k s) = k0_pay18 (k0_pay16 (F := Ideal) l) h x5 x6 (ix2 k s) := by
  pointwise [k0_pay19]

/-- The scores before the mask. -/
theorem rawLogits_apply (hh : ∀ e s, h (ix2 e s) = pre (params x1 x2 x3 x4 x5 x6 x7 x8) (mask l) x s e) (k : Fin 8) (s : Fin 4096) :
    Scalar.select (mask l s) (rawLogits l h x5 x6 x7 x8 (ix2 k s)) 0 = logit (params x1 x2 x3 x4 x5 x6 x7 x8) (mask l) x s k := by
  unfold rawLogits
  pointwise [k0_pay20]
  simp only [feat_apply l x1 x2 x3 x4 x5 x6 x7 x8 h x hh]
  exact congrArg (fun v : EReal => Scalar.select (mask l s) (v + x8 (ix2 0 k)) 0) (Finset.sum_congr rfl fun f _ => mul_comm _ _)

variable (y : FVec Ideal S8x4096 .f32) (z : Fin 4096 → Fin 8 → EReal)

/-- The written scores. -/
theorem logits_block (hy : ∀ k s, Scalar.select (mask l s) (y (ix2 k s)) 0 = z s k) (k : Fin 8) (s : Fin 4096) :
    k0_pay2 y zeroK (k0_pay21 (k0_pay16 (F := Ideal) l)) (ix3 0 k s) = z s k := by
  pointwise [k0_pay2, k0_pay1, k0_pay21]
  rw [mask_apply, hy]

/-- The probabilities. -/
theorem soft_block (hy : ∀ k s, Scalar.select (mask l s) (y (ix2 k s)) 0 = z s k) (k : Fin 8) (s : Fin 4096) :
    k0_pay3 y (0 : EReal) (k0_pay21 (k0_pay16 (F := Ideal) l)) (ix2 k s) = soft (z s) k := by
  pointwise [k0_pay3, k0_pay1, k0_pay21]
  simp only [mask_apply, hy]
  rfl

/-- The written best probabilities. -/
theorem score_block (hy : ∀ k s, Scalar.select (mask l s) (y (ix2 k s)) 0 = z s k) (s : Fin 4096) :
    k0_pay6 y zeroK (k0_pay21 (k0_pay16 (F := Ideal) l)) (ix3 0 0 s) = top (soft (z s)) := by
  pointwise [k0_pay6, k0_pay4]
  simp only [soft_block l y z hy]
  rfl

/-- The written labels. -/
theorem label_block (hy : ∀ k s, Scalar.select (mask l s) (y (ix2 k s)) 0 = z s k) (s : Fin 4096) :
    k0_pay5 y zeroK (k0_pay21 (k0_pay16 (F := Ideal) l)) (ix3 0 0 s) = firstTop (soft (z s)) := by
  pointwise [k0_pay5, k0_pay4]
  simp only [soft_block l y z hy, ne_eq, not_true_eq_false, if_false]
  rfl

end Cert.KernelIdeal.Gen
end
-- ==== Proof.Values.Stats.lean ====
/- The statistics the first point leaves in the scratch, entry by entry. -/
module

public import proofs.«01_k».proof.Proof.Values.Blocks
public import proofs.«01_k».proof.Proof.Values.Model

@[expose] public section

set_option maxRecDepth 16384

noncomputable section

namespace Cert.KernelIdeal.Gen

open Idealize.ShloMosaic Idealize.ShloMosaic.TcCoe Idealize.ShloMosaic.Tactic
open Cert.Model (mask)

variable (w : Fin 16 → BitVec 32) (x0 : Vec Ideal S128x4096 .f32)

/-- The batch a row of the input belongs to. -/
theorem feature_row (r : Fin 128) : k0_pay8 (ix2 r 0) = BitVec.ofNat 32 (r.val / 8) := by
  pointwise [k0_pay8]
  revert r; decide +kernel

/-- Row `r` belongs to batch `r / 8`. -/
def rowBatch (r : Fin 128) : Fin 16 := ⟨r.val / 8, by omega⟩

/-- Choosing a length word by comparing a batch number with each of the sixteen. -/
theorem choose_word (q : Fin 16) :
    Scalar.select (IntOp.cmpi .eq (BitVec.ofNat 32 q.val) 15#32) (w 15) (Scalar.select (IntOp.cmpi .eq (BitVec.ofNat 32 q.val) 14#32) (w 14) (Scalar.select (IntOp.cmpi .eq (BitVec.ofNat 32 q.val) 13#32) (w 13) (Scalar.select (IntOp.cmpi .eq (BitVec.ofNat 32 q.val) 12#32) (w 12) (Scalar.select (IntOp.cmpi .eq (BitVec.ofNat 32 q.val) 11#32) (w 11) (Scalar.select (IntOp.cmpi .eq (BitVec.ofNat 32 q.val) 10#32) (w 10) (Scalar.select (IntOp.cmpi .eq (BitVec.ofNat 32 q.val) 9#32) (w 9) (Scalar.select (IntOp.cmpi .eq (BitVec.ofNat 32 q.val) 8#32) (w 8) (Scalar.select (IntOp.cmpi .eq (BitVec.ofNat 32 q.val) 7#32) (w 7) (Scalar.select (IntOp.cmpi .eq (BitVec.ofNat 32 q.val) 6#32) (w 6) (Scalar.select (IntOp.cmpi .eq (BitVec.ofNat 32 q.val) 5#32) (w 5) (Scalar.select (IntOp.cmpi .eq (BitVec.ofNat 32 q.val) 4#32) (w 4) (Scalar.select (IntOp.cmpi .eq (BitVec.ofNat 32 q.val) 3#32) (w 3) (Scalar.select (IntOp.cmpi .eq (BitVec.ofNat 32 q.val) 2#32) (w 2) (Scalar.select (IntOp.cmpi .eq (BitVec.ofNat 32 q.val) 1#32) (w 1) (Scalar.select (IntOp.cmpi .eq (BitVec.ofNat 32 q.val) 0#32) (w 0) 0#32))))))))))))))) = w q := by
  fin_cases q <;> rfl

/-- The sum over one row's valid positions of a function of the entry. -/
def rowSum (f : EReal → EReal) (r : Fin 128) : EReal :=
  ∑ s : Fin 4096, Scalar.select (mask (w (rowBatch r)) s) (f (x0 (ix2 r s))) 0

/-- Masking twice is masking once. -/
theorem select_select (c : BitVec 1) (v : EReal) : Scalar.select c (Scalar.select c v 0) 0 = Scalar.select c v 0 := by
  unfold Scalar.select; split <;> rfl

/-- The first column of the row sums: the entries. -/
theorem rowSums_0 (r : Fin 128) : rowSums w x0 (ix2 r 0) = rowSum w x0 (fun v => v) r := by
  unfold rowSums
  pointwise [k0_pay12, k0_pay11, k0_pay10, k0_pay9, k0_pay7]
  unfold rowSum mask
  simp only [feature_row]
  rw [← choose_word w (rowBatch r)]
  rfl

/-- The second column: their squares. -/
theorem rowSums_1 (r : Fin 128) : rowSums w x0 (ix2 r 1) = rowSum w x0 (fun v => v * v) r := by
  unfold rowSums
  pointwise [k0_pay12, k0_pay11, k0_pay10, k0_pay9, k0_pay7]
  unfold rowSum mask
  simp only [feature_row, select_select]
  rw [← choose_word w (rowBatch r)]
  rfl

/-- A sum over the sixteen batches, written out from the left. -/
theorem sum_batches (f : Fin 16 → EReal) :
    ∑ b, f b = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

/-- A column of the row sums, summed over the batches. -/
def total (k : Fin 2) (d : Fin 8) : EReal := ∑ b : Fin 16, rowSums w x0 (ix2 ⟨8 * b.val + d.val, by omega⟩ k)

/-- The number of valid positions the kernel counts, at least one. -/
def countK : EReal := max (((wordSum w 16).toInt : ℝ) : EReal) 1

/-- The mean of feature `d`. -/
theorem stats_0 (d : Fin 8) : statsOf w x0 (ix2 d 0) = Ideal.div (total w x0 0 d) (countK w) := by
  unfold statsOf
  pointwise [k0_pay15, k0_pay13, k0_pay14]
  unfold total countK
  simp only [sum_batches]
  have e : (⟨d.val, by omega⟩ : Fin 128) = ⟨8 * (0 : Fin 16).val + d.val, by show 8 * 0 + _ < _; omega⟩ := Fin.ext (by show d.val = 8 * 0 + d.val; omega)
  rw [e]
  rfl

/-- The scale of feature `d`: one over the square root of the variance plus a small constant. -/
theorem stats_1 (d : Fin 8) : statsOf w x0 (ix2 d 1)
    = Ideal.div 1 (Ideal.sqrt (Ideal.div (total w x0 1 d) (countK w)
        - Ideal.div (total w x0 0 d) (countK w) * Ideal.div (total w x0 0 d) (countK w) + Ideal.ofBits .f32 897988541#32)) := by
  unfold statsOf
  pointwise [k0_pay15, k0_pay13, k0_pay14]
  unfold total countK
  simp only [sum_batches]
  have e : (⟨d.val, by omega⟩ : Fin 128) = ⟨8 * (0 : Fin 16).val + d.val, by show 8 * 0 + _ < _; omega⟩ := Fin.ext (by show d.val = 8 * 0 + d.val; omega)
  rw [e]
  rfl

end Cert.KernelIdeal.Gen
end
-- ==== Proof.Values.Normal.lean ====
/- The two ways of standardising one feature over the valid positions, and the two ways of counting these. -/
module

public import proofs.«01_k».proof.Proof.Values.Model

@[expose] public section

noncomputable section

namespace Cert.Model

open Idealize.ShloMosaic

/-- A position is counted when it is one of the first `l`. -/
theorem mask_toNat (l : BitVec 32) (h : 0 ≤ l.toInt) (s : Fin 4096) :
    (mask l s).toNat = if s.val < l.toNat then 1 else 0 := by
  have hs : (BitVec.ofNat 32 s.val).toInt = s.val := by
    have := s.isLt
    rw [BitVec.toInt_eq_toNat_cond, BitVec.toNat_ofNat]
    split <;> omega
  have hl : l.toInt = l.toNat := by
    rw [BitVec.toInt_eq_toNat_cond] at h ⊢
    split at h <;> omega
  show (BitVec.ofBool ((BitVec.ofNat 32 s.val).slt l)).toNat = _
  rw [BitVec.slt, hs, hl]
  by_cases hc : s.val < l.toNat
  · rw [if_pos hc, decide_eq_true (by exact_mod_cast hc)]; rfl
  · rw [if_neg hc, decide_eq_false (by exact_mod_cast hc)]; rfl

/-- A row of length `l` has `l` valid positions. -/
theorem mask_count (l : BitVec 32) (h0 : 0 ≤ l.toInt) (h1 : l.toInt ≤ 4096) :
    ∑ s : Fin 4096, (mask l s).toNat = l.toNat := by
  have hl : l.toNat ≤ 4096 := by
    rw [BitVec.toInt_eq_toNat_cond] at h0 h1
    split at h0 <;> omega
  simp only [mask_toNat l h0]
  rw [Fin.sum_univ_eq_sum_range (fun i => if i < l.toNat then 1 else 0) 4096, Finset.sum_boole]
  have e : (Finset.range 4096).filter (· < l.toNat) = Finset.range l.toNat := by
    ext i; simp only [Finset.mem_filter, Finset.mem_range]; omega
  rw [e, Finset.card_range]; rfl

/-- A sum of reals is the sum of them as extended reals. -/
theorem coe_sum {ι : Type} (t : Finset ι) (f : ι → ℝ) : ((∑ i ∈ t, f i : ℝ) : EReal) = ∑ i ∈ t, (f i : EReal) := by
  classical
  induction t using Finset.induction_on with
  | empty => rfl
  | insert a t ha ih => rw [Finset.sum_insert ha, Finset.sum_insert ha, EReal.coe_add, ih]

/-- Masking a real multiplies it by the mask. -/
theorem select_coe (c : BitVec 1) (r : ℝ) : Scalar.select c (r : EReal) 0 = ((r * (c.toNat : ℝ) : ℝ) : EReal) := by
  unfold Scalar.select
  split
  · rename_i h; rw [h]; simp
  · rename_i h
    have : c = 0#1 := by revert c; decide
    rw [this]; simp

/-- A valid entry is kept, -/
theorem select_on (c : BitVec 1) (v : EReal) (h : c = 1#1) : Scalar.select c v 0 = v := if_pos h

/-- and an invalid one is zero. -/
theorem select_off (c : BitVec 1) (v : EReal) (h : ¬c = 1#1) : Scalar.select c v 0 = 0 := if_neg h

/-- The quotient of two reals. -/
theorem div_coe (a b : ℝ) (hb : b ≠ 0) : Ideal.div (a : EReal) (b : EReal) = ((a / b : ℝ) : EReal) := by
  have hb' : (b : EReal) ≠ 0 := by exact_mod_cast hb
  unfold Ideal.div
  rw [if_neg hb', div_eq_mul_inv, EReal.coe_mul, EReal.coe_inv]

/-- The root of a positive real. -/
theorem sqrt_coe (a : ℝ) (ha : 0 ≤ a) : Ideal.sqrt (a : EReal) = (Real.sqrt a : EReal) := by
  show (if a < 0 then ⊥ else (Real.sqrt a : EReal)) = _
  rw [if_neg (not_lt.mpr ha)]

section
variable (M : Fin 16 → Fin 4096 → BitVec 1) (r : Fin 16 → Fin 4096 → ℝ)

/-- The mean of the squared deviations is the mean square less the squared mean. -/
theorem deviations (N : ℝ) (hN : N = max (∑ b, ∑ s, ((M b s).toNat : ℝ)) 1) :
    (∑ b, ∑ s, r b s * r b s * ((M b s).toNat : ℝ)) / N
        - (∑ b, ∑ s, r b s * ((M b s).toNat : ℝ)) / N * ((∑ b, ∑ s, r b s * ((M b s).toNat : ℝ)) / N)
      = (∑ b, ∑ s, (r b s - (∑ b, ∑ s, r b s * ((M b s).toNat : ℝ)) / N) * (r b s - (∑ b, ∑ s, r b s * ((M b s).toNat : ℝ)) / N)
          * ((M b s).toNat : ℝ)) / N := by
  have hpos : 0 < N := hN ▸ lt_of_lt_of_le one_pos (le_max_right _ _)
  generalize hA : (∑ b, ∑ s, r b s * ((M b s).toNat : ℝ)) = A
  generalize hn : (∑ b, ∑ s, ((M b s).toNat : ℝ)) = n at hN
  have key : (∑ b, ∑ s, (r b s - A / N) * (r b s - A / N) * ((M b s).toNat : ℝ))
      = (∑ b, ∑ s, r b s * r b s * ((M b s).toNat : ℝ)) - 2 * (A / N) * A + A / N * (A / N) * n := by
    rw [← hn]; conv_rhs => rw [← hA]
    simp only [Finset.mul_sum, ← Finset.sum_sub_distrib, ← Finset.sum_add_distrib]
    rw [hA]
    refine Finset.sum_congr rfl fun b _ => Finset.sum_congr rfl fun s _ => ?_
    ring
  rw [key]
  by_cases h : 1 ≤ n
  · rw [max_eq_left h] at hN
    subst hN
    field_simp
    ring
  · have hn' : ((∑ b, ∑ s, (M b s).toNat : ℕ) : ℝ) = n := by rw [← hn]; push_cast; rfl
    have h0 : (∑ b, ∑ s, (M b s).toNat : ℕ) = 0 := by
      have : ((∑ b, ∑ s, (M b s).toNat : ℕ) : ℝ) < 1 := hn' ▸ not_le.mp h
      have : (∑ b, ∑ s, (M b s).toNat : ℕ) < 1 := by exact_mod_cast this
      omega
    have hz : ∀ b s, (M b s).toNat = 0 := fun b s =>
      (Finset.sum_eq_zero_iff.mp ((Finset.sum_eq_zero_iff.mp h0) b (Finset.mem_univ _))) s (Finset.mem_univ _)
    have hA0 : A = 0 := by rw [← hA]; simp only [hz, Nat.cast_zero, mul_zero, Finset.sum_const_zero]
    rw [hA0]
    simp only [hz, Nat.cast_zero, mul_zero, Finset.sum_const_zero, zero_div, sub_zero, add_zero, zero_mul]

end

/-- The value added to the variance. -/
def eps : EReal := Ideal.ofBits .f32 897988541#32

/-- It is a positive real. -/
theorem eps_pos : ∃ e : ℝ, 0 < e ∧ eps = (e : EReal) := by
  refine ⟨8796093 * 2 ^ (-43 : ℤ), by positivity, ?_⟩
  unfold eps
  simp [Ideal.ofBits, Ideal.ieee, -EReal.coe_mul]

section
variable (M : Fin 16 → Fin 4096 → BitVec 1) (x : Fin 16 → Fin 4096 → EReal) (N : EReal)

/-- The mean over the valid positions, by masking the entries. -/
def maskedMean : EReal := Ideal.div (∑ b, ∑ s, Scalar.select (M b s) (x b s) 0) N

/-- The mean square over the valid positions. -/
def maskedSquare : EReal := Ideal.div (∑ b, ∑ s, Scalar.select (M b s) (x b s * x b s) 0) N

/-- The mean over the valid positions, by weights. -/
def weightedMean : EReal := Ideal.div (∑ b, ∑ s, x b s * (((M b s).toNat : ℝ) : EReal)) N

/-- The variance over the valid positions. -/
def weightedVar : EReal :=
  Ideal.div (∑ b, ∑ s, (x b s - weightedMean M x N) * (x b s - weightedMean M x N) * (((M b s).toNat : ℝ) : EReal)) N

variable (hN : N = max (∑ b, ∑ s, (((M b s).toNat : ℝ) : EReal)) 1)
include hN

/-- The count is a positive real. -/
theorem count_real : N = ((max (∑ b, ∑ s, ((M b s).toNat : ℝ)) 1 : ℝ) : EReal) := by
  rw [hN, EReal.coe_strictMono.monotone.map_max, coe_sum]
  simp only [coe_sum]
  rfl

/-- On finite entries the means are one real, and the mean square less the squared mean is the variance, a real that is not negative. -/
theorem finite_statistics (hx : ∀ b s, ∃ r : ℝ, x b s = r) : ∃ A v : ℝ, 0 ≤ v ∧ maskedMean M x N = A ∧ weightedMean M x N = A
    ∧ maskedSquare M x N - maskedMean M x N * maskedMean M x N = v ∧ weightedVar M x N = v := by
  choose r hr using hx
  have hN' := count_real M N hN
  generalize hK : max (∑ b, ∑ s, ((M b s).toNat : ℝ)) 1 = K at hN'
  have hK0 : 0 < K := hK ▸ lt_of_lt_of_le one_pos (le_max_right _ _)
  have hd := deviations M r K hK.symm
  generalize hA : (∑ b, ∑ s, r b s * ((M b s).toNat : ℝ)) / K = A at hd
  have h1 : maskedMean M x N = (A : EReal) := by
    unfold maskedMean
    simp only [hr, select_coe, ← coe_sum]
    rw [hN', div_coe _ _ hK0.ne', hA]
  have h2 : weightedMean M x N = (A : EReal) := by
    unfold weightedMean
    simp only [hr, ← EReal.coe_mul, ← coe_sum]
    rw [hN', div_coe _ _ hK0.ne', hA]
  have h3 : maskedSquare M x N = (((∑ b, ∑ s, r b s * r b s * ((M b s).toNat : ℝ)) / K : ℝ) : EReal) := by
    unfold maskedSquare
    simp only [hr, ← EReal.coe_mul, select_coe, ← coe_sum]
    rw [hN', div_coe _ _ hK0.ne']
  have h4 : weightedVar M x N = (((∑ b, ∑ s, (r b s - A) * (r b s - A) * ((M b s).toNat : ℝ)) / K : ℝ) : EReal) := by
    unfold weightedVar
    rw [h2]
    simp only [hr, ← EReal.coe_mul, ← EReal.coe_sub, ← coe_sum]
    rw [hN', div_coe _ _ hK0.ne']
  refine ⟨A, _, ?_, h1, h2, ?_, h4⟩
  · exact div_nonneg (Finset.sum_nonneg fun b _ => Finset.sum_nonneg fun s _ => mul_nonneg (mul_self_nonneg _) (Nat.cast_nonneg _)) hK0.le
  · rw [h1, h3, ← EReal.coe_mul, ← EReal.coe_sub, hd]

omit hN in
/-- The statistics read the valid entries only. -/
theorem statistics_congr (y : Fin 16 → Fin 4096 → EReal) (h : ∀ b s, M b s = 1#1 → x b s = y b s) :
    maskedMean M x N = maskedMean M y N ∧ weightedMean M x N = weightedMean M y N ∧ maskedSquare M x N = maskedSquare M y N
      ∧ weightedVar M x N = weightedVar M y N := by
  have hs : ∀ (g : EReal → EReal) b s, Scalar.select (M b s) (g (x b s)) (0 : EReal) = Scalar.select (M b s) (g (y b s)) 0 := by
    intro g b s
    by_cases hm : M b s = 1#1
    · rw [h b s hm]
    · exact (select_off _ _ hm).trans (select_off _ _ hm).symm
  have hw : ∀ (g : EReal → EReal) b s, g (x b s) * (((M b s).toNat : ℝ) : EReal) = g (y b s) * (((M b s).toNat : ℝ) : EReal) := by
    intro g b s
    by_cases hm : M b s = 1#1
    · rw [h b s hm]
    · have h0 : (M b s).toNat = 0 := by
        revert hm; generalize M b s = c; revert c; decide
      rw [h0]; simp
  have e2 : weightedMean M x N = weightedMean M y N := by
    unfold weightedMean
    exact congrArg (Ideal.div · N) (Finset.sum_congr rfl fun b _ => Finset.sum_congr rfl fun s _ => hw (fun v => v) b s)
  refine ⟨?_, e2, ?_, ?_⟩
  · unfold maskedMean
    exact congrArg (Ideal.div · N) (Finset.sum_congr rfl fun b _ => Finset.sum_congr rfl fun s _ => hs (fun v => v) b s)
  · unfold maskedSquare
    exact congrArg (Ideal.div · N) (Finset.sum_congr rfl fun b _ => Finset.sum_congr rfl fun s _ => hs (fun v => v * v) b s)
  · unfold weightedVar
    rw [e2]
    exact congrArg (Ideal.div · N) (Finset.sum_congr rfl fun b _ => Finset.sum_congr rfl fun s _ =>
      hw (fun v => (v - weightedMean M y N) * (v - weightedMean M y N)) b s)

/-- Where every valid entry is finite, the two standardisations agree. -/
theorem standard_finite (hx : ∀ b s, M b s = 1#1 → ∃ r : ℝ, x b s = r) (b : Fin 16) (s : Fin 4096) :
    (x b s - maskedMean M x N) * Ideal.div 1 (Ideal.sqrt (maskedSquare M x N - maskedMean M x N * maskedMean M x N + eps))
      = Ideal.div (x b s - weightedMean M x N) (Ideal.sqrt (weightedVar M x N + eps)) := by
  obtain ⟨e, he, hee⟩ := eps_pos
  obtain ⟨c1, c2, c3, c4⟩ := statistics_congr M x N (fun b s => if M b s = 1#1 then x b s else 0) (fun b s h => (if_pos h).symm)
  obtain ⟨A, v, hv, h1, h2, h3, h4⟩ := finite_statistics M (fun b s => if M b s = 1#1 then x b s else 0) N hN (fun b s => by
    by_cases h : M b s = 1#1
    · rw [if_pos h]; exact hx b s h
    · rw [if_neg h]; exact ⟨0, rfl⟩)
  have hp : 0 < v + e := add_pos_of_nonneg_of_pos hv he
  have hs : (Real.sqrt (v + e) : EReal) ≠ 0 := by exact_mod_cast (Real.sqrt_pos.mpr hp).ne'
  rw [c1, c2, c3, c4, h3, h1, h2, h4, hee, ← EReal.coe_add, sqrt_coe _ hp.le]
  unfold Ideal.div
  rw [if_neg hs, if_neg hs, one_mul]

omit hN in
/-- A sum with an infinite term is infinite. -/
theorem sum_infinite {ι : Type} [Fintype ι] (f : ι → EReal) (i : ι) (h : f i = ⊤ ∨ f i = ⊥) : ∑ j, f j = ⊤ ∨ ∑ j, f j = ⊥ := by
  classical
  rw [← Finset.add_sum_erase Finset.univ f (Finset.mem_univ i)]
  generalize ∑ j ∈ Finset.univ.erase i, f j = t
  rcases h with h | h
  · rw [h]
    by_cases ht : t = ⊥
    · right; rw [ht]; exact EReal.add_bot _
    · left; exact EReal.top_add_of_ne_bot ht
  · rw [h]; right; exact EReal.bot_add _

omit hN in
/-- An infinite value over a positive real is infinite, of the same sign. -/
theorem div_infinite (K : ℝ) (hK : 0 < K) : Ideal.div ⊤ (K : EReal) = ⊤ ∧ Ideal.div ⊥ (K : EReal) = ⊥ := by
  have h0 : (K : EReal) ≠ 0 := by exact_mod_cast hK.ne'
  unfold Ideal.div
  rw [if_neg h0, if_neg h0, ← EReal.coe_inv]
  exact ⟨EReal.top_mul_coe_of_pos (inv_pos.mpr hK), EReal.bot_mul_coe_of_pos (inv_pos.mpr hK)⟩

omit hN in
/-- An infinite value has an infinite square. -/
theorem square_infinite (y : EReal) (h : y = ⊤ ∨ y = ⊥) : y * y = ⊤ := by
  rcases h with h | h <;> rw [h]
  · exact EReal.top_mul_top
  · exact EReal.bot_mul_bot

omit hN in
/-- A square is not negative. -/
theorem square_nonneg (y : EReal) : 0 ≤ y * y := by
  induction y using EReal.rec with
  | bot => rw [EReal.bot_mul_bot]; exact le_top
  | coe r => rw [← EReal.coe_mul]; exact_mod_cast mul_self_nonneg r
  | top => rw [EReal.top_mul_top]; exact le_top

/-- Where a valid entry is infinite, both standardisations are zero throughout. -/
theorem standard_infinite (b₀ : Fin 16) (s₀ : Fin 4096) (hm : M b₀ s₀ = 1#1) (hx : x b₀ s₀ = ⊤ ∨ x b₀ s₀ = ⊥) (b : Fin 16) (s : Fin 4096) :
    (x b s - maskedMean M x N) * Ideal.div 1 (Ideal.sqrt (maskedSquare M x N - maskedMean M x N * maskedMean M x N + eps))
      = Ideal.div (x b s - weightedMean M x N) (Ideal.sqrt (weightedVar M x N + eps)) := by
  obtain ⟨e, he, hee⟩ := eps_pos
  have hN' := count_real M N hN
  generalize hK : max (∑ b, ∑ s, ((M b s).toNat : ℝ)) 1 = K at hN'
  have hK0 : 0 < K := hK ▸ lt_of_lt_of_le one_pos (le_max_right _ _)
  obtain ⟨dt, db⟩ := div_infinite K hK0
  have h1 : maskedMean M x N = ⊤ ∨ maskedMean M x N = ⊥ := by
    unfold maskedMean
    have h := sum_infinite (fun b => ∑ s, Scalar.select (M b s) (x b s) (0 : EReal)) b₀
      (sum_infinite (fun s => Scalar.select (M b₀ s) (x b₀ s) (0 : EReal)) s₀ (by
        show Scalar.select (M b₀ s₀) (x b₀ s₀) (0 : EReal) = ⊤ ∨ Scalar.select (M b₀ s₀) (x b₀ s₀) (0 : EReal) = ⊥
        rw [select_on _ _ hm]; exact hx))
    rcases h with h | h <;> rw [h, hN']
    · exact Or.inl dt
    · exact Or.inr db
  have hone : (((M b₀ s₀).toNat : ℝ) : EReal) = 1 := by
    rw [hm]
    exact congrArg (fun r : ℝ => (r : EReal)) Nat.cast_one
  have h2 : weightedVar M x N = ⊤ := by
    unfold weightedVar
    generalize hμ : weightedMean M x N = μ
    have hmu : μ = ⊤ ∨ μ = ⊥ := by
      rw [← hμ]
      unfold weightedMean
      have h := sum_infinite (fun b => ∑ s, x b s * (((M b s).toNat : ℝ) : EReal)) b₀
        (sum_infinite (fun s => x b₀ s * (((M b₀ s).toNat : ℝ) : EReal)) s₀ (by
          show x b₀ s₀ * (((M b₀ s₀).toNat : ℝ) : EReal) = ⊤ ∨ x b₀ s₀ * (((M b₀ s₀).toNat : ℝ) : EReal) = ⊥
          rw [hone, mul_one]; exact hx))
      rcases h with h | h <;> rw [h, hN']
      · exact Or.inl dt
      · exact Or.inr db
    have hterm : (x b₀ s₀ - μ) * (x b₀ s₀ - μ) * (((M b₀ s₀).toNat : ℝ) : EReal) = ⊤ := by
      rw [hone, mul_one]
      refine square_infinite _ ?_
      rcases hx with h | h <;> rcases hmu with h' | h' <;> rw [h, h'] <;> simp
    have hnn : ∀ b s, 0 ≤ (x b s - μ) * (x b s - μ) * (((M b s).toNat : ℝ) : EReal) := fun b s =>
      mul_nonneg (square_nonneg _) (by exact_mod_cast Nat.zero_le _)
    have hsum : ∑ b, ∑ s, (x b s - μ) * (x b s - μ) * (((M b s).toNat : ℝ) : EReal) = ⊤ := by
      apply top_le_iff.mp
      calc (⊤ : EReal) = (x b₀ s₀ - μ) * (x b₀ s₀ - μ) * (((M b₀ s₀).toNat : ℝ) : EReal) := hterm.symm
        _ ≤ ∑ s, (x b₀ s - μ) * (x b₀ s - μ) * (((M b₀ s).toNat : ℝ) : EReal) :=
            Finset.single_le_sum (f := fun s => (x b₀ s - μ) * (x b₀ s - μ) * (((M b₀ s).toNat : ℝ) : EReal)) (fun s _ => hnn b₀ s) (Finset.mem_univ s₀)
        _ ≤ _ := Finset.single_le_sum (f := fun b => ∑ s, (x b s - μ) * (x b s - μ) * (((M b s).toNat : ℝ) : EReal))
            (fun b _ => Finset.sum_nonneg fun s _ => hnn b s) (Finset.mem_univ b₀)
    rw [hsum, hN', dt]
  have h3 : maskedSquare M x N - maskedMean M x N * maskedMean M x N + eps = ⊥ := by
    rw [square_infinite _ h1, sub_eq_add_neg, EReal.neg_top, EReal.add_bot, EReal.bot_add]
  have h4 : (⊤ : EReal) + eps = ⊤ := by rw [hee]; exact EReal.top_add_coe e
  rw [h3, h2, h4]
  show (x b s - maskedMean M x N) * Ideal.div 1 ⊥ = Ideal.div (x b s - weightedMean M x N) ⊤
  unfold Ideal.div
  rw [if_neg (by simp), if_neg (by simp), EReal.inv_bot, EReal.inv_top, mul_zero, mul_zero, mul_zero]

/-- The two standardisations agree: the product with one over the root of the mean square less the squared mean, and the quotient
    by the root of the variance. -/
theorem standard (b : Fin 16) (s : Fin 4096) :
    (x b s - maskedMean M x N) * Ideal.div 1 (Ideal.sqrt (maskedSquare M x N - maskedMean M x N * maskedMean M x N + eps))
      = Ideal.div (x b s - weightedMean M x N) (Ideal.sqrt (weightedVar M x N + eps)) := by
  by_cases h : ∀ b s, M b s = 1#1 → ∃ r : ℝ, x b s = r
  · exact standard_finite M x N hN h b s
  · simp only [not_forall] at h
    obtain ⟨b₀, s₀, hm, hr⟩ := h
    refine standard_infinite M x N hN b₀ s₀ hm ?_ b s
    generalize x b₀ s₀ = y at hr
    induction y using EReal.rec with
    | bot => exact Or.inr rfl
    | coe r => exact absurd ⟨r, rfl⟩ hr
    | top => exact Or.inl rfl

end

end Cert.Model
end
-- ==== Proof.Values.Results.lean ====
/- The kernel's four results, entry by entry, in terms of the model and of the arguments. -/
module

public import proofs.«01_k».proof.Proof.Values.Arrays
public import proofs.«01_k».proof.Proof.Values.Inputs
public import proofs.«01_k».proof.Proof.Values.Kernel
public import proofs.«01_k».proof.Proof.Values.Stats
public import proofs.«01_k».proof.Proof.Values.Normal

@[expose] public section

set_option maxRecDepth 4096

noncomputable section

namespace Cert.KernelIdeal.Gen

open Idealize.ShloMosaic Idealize.ShloMosaic.TcCoe Idealize.ShloMosaic.Tactic
open Cert.Model (Params mask logit feat top soft firstTop pre maskedMean maskedSquare eps mask_count coe_sum)

/-! ### Counting the valid positions -/

section
variable (w : Fin 16 → BitVec 32) (h0 : ∀ b, 0 ≤ (w b).toInt) (h1 : ∀ b, (w b).toInt ≤ 4096)
include h0 h1

/-- A length in the range, read without sign, is at most 4096. -/
theorem word_nat (b : Fin 16) : (w b).toNat ≤ 4096 := by
  have a := h0 b
  have a' := h1 b
  rw [BitVec.toInt_eq_toNat_cond] at a a'
  split at a <;> omega

/-- The sum of the words is the sum of the lengths: nothing overflows. -/
theorem wordSum_nat (k : ℕ) (hk : k ≤ 16) :
    (wordSum w k).toNat = ∑ i ∈ Finset.range k, (if h : i < 16 then (w ⟨i, h⟩).toNat else 0) ∧ (wordSum w k).toNat ≤ 4096 * k := by
  induction k with
  | zero => exact ⟨rfl, le_rfl⟩
  | succ k ih =>
    obtain ⟨e, l⟩ := ih (by omega)
    have hk' : k < 16 := by omega
    have hw := word_nat w h0 h1 ⟨k, hk'⟩
    have ha : (wordSum w (k + 1)).toNat = (wordSum w k).toNat + (w ⟨k, hk'⟩).toNat := by
      rw [wordSum, dif_pos hk']
      show (wordSum w k + w ⟨k, hk'⟩).toNat = _
      rw [BitVec.toNat_add]
      omega
    refine ⟨?_, by omega⟩
    rw [ha, Finset.sum_range_succ, e, dif_pos hk']

/-- The kernel's count is the number of valid positions, at least one. -/
theorem countK_eq : countK w = max (∑ b : Fin 16, ∑ s : Fin 4096, (((mask (w b) s).toNat : ℝ) : EReal)) 1 := by
  obtain ⟨e, l⟩ := wordSum_nat w h0 h1 16 le_rfl
  have ei : (wordSum w 16).toInt = (wordSum w 16).toNat := by
    rw [BitVec.toInt_eq_toNat_cond, if_pos (by omega)]
  have es : (wordSum w 16).toNat = ∑ b : Fin 16, ∑ s : Fin 4096, (mask (w b) s).toNat := by
    rw [e, Finset.sum_range]
    refine Finset.sum_congr rfl fun b _ => ?_
    rw [dif_pos b.isLt, mask_count _ (h0 b) (h1 b)]
  unfold countK
  rw [ei, es]
  simp only [← coe_sum]
  push_cast
  rfl

end

/-! ### The statistics -/

section
variable (w : Fin 16 → BitVec 32) (x0 : Vec Ideal S128x4096 .f32) (y : Fin 16 → Fin 4096 → Fin 8 → EReal)
  (hy : ∀ b s d, x0 (ix2 ⟨8 * b.val + d.val, row_lt b d⟩ s) = y b s d)
include hy

/-- The first total is the sum of the valid entries. -/
theorem total_0 (d : Fin 8) : total w x0 0 d = ∑ b : Fin 16, ∑ s : Fin 4096, Scalar.select (mask (w b) s) (y b s d) 0 := by
  unfold total
  refine Finset.sum_congr rfl fun b _ => ?_
  rw [rowSums_0]
  unfold rowSum
  have e : rowBatch ⟨8 * b.val + d.val, row_lt b d⟩ = b := Fin.ext (by show (8 * b.val + d.val) / 8 = b.val; omega)
  rw [e]
  simp only [hy]

/-- The second total is the sum of the squares of the valid entries. -/
theorem total_1 (d : Fin 8) : total w x0 1 d = ∑ b : Fin 16, ∑ s : Fin 4096, Scalar.select (mask (w b) s) (y b s d * y b s d) 0 := by
  unfold total
  refine Finset.sum_congr rfl fun b _ => ?_
  rw [rowSums_1]
  unfold rowSum
  have e : rowBatch ⟨8 * b.val + d.val, row_lt b d⟩ = b := Fin.ext (by show (8 * b.val + d.val) / 8 = b.val; omega)
  rw [e]
  simp only [hy]

/-- The kernel's normalised input: the entry less the mean, times the scale. -/
theorem normed_apply (b : Fin 16) (s : Fin 4096) (d : Fin 8) :
    normed (rowsOf x0 b) (statsOf w x0) s d
      = (y b s d - maskedMean (fun b => mask (w b)) (fun b s => y b s d) (countK w))
        * Ideal.div 1 (Ideal.sqrt (maskedSquare (fun b => mask (w b)) (fun b s => y b s d) (countK w)
            - maskedMean (fun b => mask (w b)) (fun b s => y b s d) (countK w) * maskedMean (fun b => mask (w b)) (fun b s => y b s d) (countK w) + eps)) := by
  have er : rowsOf x0 b (ix2 d s) = y b s d := by
    rw [← hy]
    exact congrArg x0 (funext fun a => Fin.ext (by
      match a with
      | ⟨0, _⟩ => show b.val * 8 + d.val = 8 * b.val + d.val; omega
      | ⟨1, _⟩ => rfl))
  unfold normed
  rw [stats_0, stats_1, er, total_0 w x0 y hy, total_1 w x0 y hy]
  rfl

end

/-! ### The results -/

variable (m : (ℓ : Loc nD τ sig) → Buf (Elt Ideal) ℓ) (c : Dev nD)

/-- The parameters read off the kernel's arguments. -/
def paramsK : Params where
  w1 d e := m ((c : Thread nD τ).loc main_arg2) (ix2 d e)
  b1 e := m ((c : Thread nD τ).loc main_arg3) (ix1 e)
  w2 d e := m ((c : Thread nD τ).loc main_arg4) (ix2 d e)
  b2 e := m ((c : Thread nD τ).loc main_arg5) (ix1 e)
  wg d e := m ((c : Thread nD τ).loc main_arg6) (ix2 d e)
  bg e := m ((c : Thread nD τ).loc main_arg7) (ix1 e)
  ws d e := m ((c : Thread nD τ).loc main_arg8) (ix2 d e)
  bs e := m ((c : Thread nD τ).loc main_arg9) (ix1 e)

/-- They are the ones the windows hold. -/
theorem params_eq : params (V m c main_arg2) (V m c main_v2) (V m c main_arg4) (V m c main_v3) (V m c main_arg6) (V m c main_v4)
    (V m c main_arg8) (V m c main_v5) = paramsK m c := by
  unfold params paramsK
  exact (Params.mk.injEq ..).mpr ⟨funext fun d => funext fun e => congrFun (V_main_arg2 m c) _, funext fun e => bias_3 m c e,
    funext fun d => funext fun e => congrFun (V_main_arg4 m c) _, funext fun e => bias_5 m c e,
    funext fun d => funext fun e => congrFun (V_main_arg6 m c) _, funext fun e => bias_7 m c e,
    funext fun d => funext fun e => congrFun (V_main_arg8 m c) _, funext fun e => bias_9 m c e⟩

/-- Batch `b`'s normalised input. -/
def normedK (b : Fin 16) : Fin 4096 → Fin 8 → EReal := normed (rowsOf (V m c main_v1) b) (statsK m c)

/-- Batch `b`'s second layer. -/
theorem hidK_apply (b : Fin 16) (e : Fin 64) (s : Fin 4096) :
    hidK m c b (ix2 e s) = pre (paramsK m c) (mask (lenOf m b)) (normedK m c b) s e := by
  unfold hidK normedK
  rw [← params_eq]
  exact rawHid_apply _ _ _ _ _ _ _ _ _ _ _ e s

/-- Batch `b`'s scores. -/
theorem logitsK_apply (b : Fin 16) (k : Fin 8) (s : Fin 4096) :
    Scalar.select (mask (lenOf m b) s) (logitsK m c b (ix2 k s)) 0 = logit (paramsK m c) (mask (lenOf m b)) (normedK m c b) s k := by
  unfold logitsK
  rw [← params_eq]
  exact rawLogits_apply _ (V m c main_arg2) (V m c main_v2) (V m c main_arg4) (V m c main_v3) _ _ _ _ _ _
    (fun e s => by rw [params_eq]; exact hidK_apply m c b e s) k s

variable (hO : Ok m) (b : Fin 16) (s : Fin 4096)

/-- The first result. -/
theorem result_logits (k : Fin 8) :
    Pipeline.afterTail pcfgs (fun _ => adm m hO) (dats m hO) 0 (V0 m) [hostOps1] c main_v7 (ix3 b s k)
      = logit (paramsK m c) (mask (lenOf m b)) (normedK m c b) s k := by
  refine (tail_9 m hO c b s k).trans ?_
  show (leftK m c b).1 (ix3 0 k s) = _
  unfold leftK
  dsimp only
  have h := logits_block (lenOf m b) (logitsK m c b) (logit (paramsK m c) (mask (lenOf m b)) (normedK m c b)) (fun k s => logitsK_apply m c b k s) k s
  exact h

/-- The second result. -/
theorem result_labels :
    Pipeline.afterTail pcfgs (fun _ => adm m hO) (dats m hO) 0 (V0 m) [hostOps1] c main_v8 (ix3 b s 0)
      = firstTop (soft (logit (paramsK m c) (mask (lenOf m b)) (normedK m c b) s)) := by
  refine (tail_10 m hO c b s 0).trans ?_
  show (leftK m c b).2.1 (ix3 0 0 s) = _
  unfold leftK
  dsimp only
  have h := label_block (lenOf m b) (logitsK m c b) (logit (paramsK m c) (mask (lenOf m b)) (normedK m c b)) (fun k s => logitsK_apply m c b k s) s
  exact h

/-- The third result. -/
theorem result_scores :
    Pipeline.afterTail pcfgs (fun _ => adm m hO) (dats m hO) 0 (V0 m) [hostOps1] c main_v9 (ix3 b s 0)
      = top (soft (logit (paramsK m c) (mask (lenOf m b)) (normedK m c b) s)) := by
  refine (tail_11 m hO c b s 0).trans ?_
  show (leftK m c b).2.2.1 (ix3 0 0 s) = _
  unfold leftK
  dsimp only
  have h := score_block (lenOf m b) (logitsK m c b) (logit (paramsK m c) (mask (lenOf m b)) (normedK m c b)) (fun k s => logitsK_apply m c b k s) s
  exact h

/-- The fourth result. -/
theorem result_feats (k : Fin 192) :
    Pipeline.afterTail pcfgs (fun _ => adm m hO) (dats m hO) 0 (V0 m) [hostOps1] c main_v10 (ix3 b s k)
      = feat (paramsK m c) (mask (lenOf m b)) (normedK m c b) s k := by
  refine (tail_12 m hO c b s k).trans ?_
  refine (feat_block (lenOf m b) (V m c main_arg6) (V m c main_v4) (hidK m c b) k s).trans ?_
  rw [← params_eq]
  exact feat_apply (lenOf m b) _ _ _ _ _ _ _ _ _ _ (fun e s => by rw [params_eq]; exact hidK_apply m c b e s) k s

end Cert.KernelIdeal.Gen
end
-- ==== Proof.Values.Reference.lean ====
/- What the reference computes, element by element, in terms of the model. -/
module

public import proofs.«01_k».proof.Proof.Gen.ReferenceIdeal.Run
public import proofs.«01_k».proof.Proof.Values.Model
public import Idealize.ShloMosaic.Lib.IdealHost

@[expose] public section

set_option maxRecDepth 2000

noncomputable section

namespace Cert.ReferenceIdeal.Value

open Idealize.ShloMosaic Idealize.ShloMosaic.TcCoe Cert.ReferenceIdeal Cert.ReferenceIdeal.Gen
open Cert.Model (Params floorVal mask hid1 pre hid glob globMax feat logit top soft firstTop)

variable (V0 : Valuation τ sig (Elt Ideal))

/-- The parameters read off the reference's arguments. -/
def params : Params where
  w1 d e := V0 (Proc.tc.devRef main_arg2) (ix2 d e)
  b1 e := V0 (Proc.tc.devRef main_arg3) (ix1 e)
  w2 d e := V0 (Proc.tc.devRef main_arg4) (ix2 d e)
  b2 e := V0 (Proc.tc.devRef main_arg5) (ix1 e)
  wg d e := V0 (Proc.tc.devRef main_arg6) (ix2 d e)
  bg e := V0 (Proc.tc.devRef main_arg7) (ix1 e)
  ws d e := V0 (Proc.tc.devRef main_arg8) (ix2 d e)
  bs e := V0 (Proc.tc.devRef main_arg9) (ix1 e)

/-- The input, entry by entry. -/
def inp (b : Fin 16) (s : Fin 4096) (d : Fin 8) : EReal := V0 (Proc.tc.devRef main_arg0) (ix3 b s d)

/-- Batch `b`'s mask. -/
abbrev msk (b : Fin 16) : Fin 4096 → BitVec 1 := mask (V0 (Proc.tc.devRef main_arg1) (ix1 b))

/-- The mask as a number. -/
def mnum (b : Fin 16) (s : Fin 4096) : EReal := ((((msk V0 b s).toNat : ℕ) : ℝ) : EReal)

/-- The reference's zero. -/
theorem zero_apply (i : S_.Idx) : (constant S_ .f32 0#32 : FVec Ideal S_ .f32) i = (0 : EReal) := by
  pointwise []

/-- The reference's least value. -/
theorem floor_apply (i : S_.Idx) : (constant S_ .f32 4286578688#32 : FVec Ideal S_ .f32) i = floorVal := rfl

/-- A sum over batches and positions. -/
theorem sum_rows (v : FVec Ideal S16x4096x8 .f32) (d : Fin 8) :
    Host.reduceAdd v (constant S_ .f32 0x00000000#32) reducesTo_S16x4096x8_S8_d0_1 h_S_ (ix1 d)
      = ∑ b : Fin 16, ∑ s : Fin 4096, (v (ix3 b s d) : EReal) := by
  rw [ValueIdx.hostReduceAdd_apply, zero_apply]
  show (0 : EReal) + ∑ i ∈ Finset.univ.filter (fun i => reducesTo_S16x4096x8_S8_d0_1.drop i = ix1 d), (v i : EReal) = _
  rw [zero_add, Finset.sum_filter_eq_sum_of_fiber _ (fun k : Fin 16 × Fin 4096 => (ix3 k.1 k.2 d : S16x4096x8.Idx))
    (fun k k' e => Prod.ext (congrFun e 0) (congrFun e 1)) _ v, Fintype.sum_prod_type]
  intro i
  constructor
  · intro e
    refine ⟨(i 0, i 1), funext fun a => Fin.ext ?_⟩
    match a with
    | ⟨0, _⟩ => rfl
    | ⟨1, _⟩ => rfl
    | ⟨2, _⟩ => exact (congrArg Fin.val (congrFun e 0)).symm
  · rintro ⟨k, rfl⟩
    funext a
    apply Fin.ext
    match a with
    | ⟨0, _⟩ => rfl

/-- Such a sum divided by a number. -/
theorem average (v : FVec Ideal S16x4096x8 .f32) (n : FVec Ideal S_ .f32) (d : Fin 8) :
    Host.divf (Host.reduceAdd v (constant S_ .f32 0x00000000#32) reducesTo_S16x4096x8_S8_d0_1 h_S_)
        (broadcastInDim S8 ![] bcast_S_S8 n) (ix1 d)
      = Ideal.div (∑ b : Fin 16, ∑ s : Fin 4096, (v (ix3 b s d) : EReal)) (n ix0) := by
  rw [← sum_rows v d]
  generalize Host.reduceAdd v (constant S_ .f32 0x00000000#32) reducesTo_S16x4096x8_S8_d0_1 h_S_ = r
  pointwise []

/-- The reference's mask, entry by entry. -/
theorem v5_apply (b : Fin 16) (s : Fin 4096) : res_main_v5 V0 (ix2 b s) = msk V0 b s := by
  pointwise [res_main_v5]
  rfl

/-- The reference's mask as a number, entry by entry. -/
theorem v7_apply (b : Fin 16) (s : Fin 4096) : res_main_v7 V0 (ix3 b s 0) = mnum V0 b s := by
  pointwise [res_main_v7]
  rw [v5_apply]
  rfl

/-- The number of valid positions, at least one. -/
def count : EReal := max (∑ b, ∑ s, mnum V0 b s) 1

/-- The mean of feature `d` over the valid positions. -/
def mean (d : Fin 8) : EReal := Ideal.div (∑ b, ∑ s, inp V0 b s d * mnum V0 b s) (count V0)

/-- The variance of feature `d` over the valid positions. -/
def var (d : Fin 8) : EReal :=
  Ideal.div (∑ b, ∑ s, (inp V0 b s d - mean V0 d) * (inp V0 b s d - mean V0 d) * mnum V0 b s) (count V0)

/-- The normalised input. -/
def normed (b : Fin 16) (s : Fin 4096) (d : Fin 8) : EReal :=
  Ideal.div (inp V0 b s d - mean V0 d) (Ideal.sqrt (var V0 d + Ideal.ofBits .f32 897988541#32))

/-- A sum over all positions. -/
theorem sum_all (v : FVec Ideal S16x4096x1 .f32) :
    Host.reduceAdd v (constant S_ .f32 0x00000000#32) reducesTo_S16x4096x1_S_d0_1_2 h_S_ ix0
      = ∑ b : Fin 16, ∑ s : Fin 4096, (v (ix3 b s 0) : EReal) := by
  pointwise []
  simp only [Finset.univ_unique, Finset.sum_singleton, Fin.default_eq_zero]

/-- The larger of a number and one. -/
theorem max_one (v : FVec Ideal S_ .f32) : maximumf v (constant S_ .f32 0x3F800000#32) ix0 = max (v ix0 : EReal) 1 := by
  pointwise []

/-- The reference's count of valid positions. -/
theorem count_apply : maximumf (res_main_v8 V0) (constant S_ .f32 0x3F800000#32) ix0 = count V0 := by
  rw [max_one]
  unfold res_main_v8 count
  rw [sum_all]
  simp only [v7_apply]

/-- The reference's mean. -/
theorem v14_apply (d : Fin 8) : res_main_v14 V0 (ix1 d) = mean V0 d := by
  unfold res_main_v14
  rw [average, count_apply]
  refine congrArg (fun v : EReal => Ideal.div v (count V0)) (Finset.sum_congr rfl fun b _ => Finset.sum_congr rfl fun s _ => ?_)
  pointwise []
  rw [v7_apply]
  rfl

/-- The reference's deviation from the mean. -/
theorem v17_apply (b : Fin 16) (s : Fin 4096) (d : Fin 8) : res_main_v17 V0 (ix3 b s d) = inp V0 b s d - mean V0 d := by
  pointwise [res_main_v17]
  rw [v14_apply]
  rfl

/-- The variance, as the reference's array. -/
theorem var_apply (d : Fin 8) :
    Host.divf (Host.reduceAdd (mulf (mulf (res_main_v17 V0) (res_main_v17 V0)) (broadcastInDim S16x4096x8 ![0, 1, 2] bcast_S16x4096x1_S16x4096x8_0_1_2 (res_main_v7 V0))) (constant S_ .f32 0x00000000#32) reducesTo_S16x4096x8_S8_d0_1 h_S_)
        (broadcastInDim S8 ![] bcast_S_S8 (maximumf (res_main_v8 V0) (constant S_ .f32 0x3F800000#32))) (ix1 d) = var V0 d := by
  rw [average, count_apply]
  refine congrArg (fun v : EReal => Ideal.div v (count V0)) (Finset.sum_congr rfl fun b _ => Finset.sum_congr rfl fun s _ => ?_)
  pointwise []
  rw [v7_apply, v17_apply]

variable (q : IVec S16x4096 1) (mu r : FVec Ideal S8 .f32) (h : FVec Ideal S16x4096x64 .f32) (f : FVec Ideal S16x4096x192 .f32)
  (a0 : FVec Ideal S16x4096x8 .f32) (a2 : FVec Ideal S8x64 .f32) (a3 : FVec Ideal S64 .f32) (a4 : FVec Ideal S64x64 .f32)
  (a5 : FVec Ideal S64 .f32) (a6 : FVec Ideal S64x128 .f32) (a7 : FVec Ideal S128 .f32) (a8 : FVec Ideal S192x8 .f32) (a9 : FVec Ideal S8 .f32)

/-- The two layers of the reference over any arrays, -/
def layers : FVec Ideal S16x4096x64 .f32 :=
  select (broadcastInDim S16x4096x64 ![0, 1, 2] bcast_S16x4096x1_S16x4096x64_0_1_2 (broadcastInDim S16x4096x1 ![0, 1] bcast_S16x4096_S16x4096x1_0_1 q)) (maximumf (addf (Host.dotGeneral dot_S16x4096x64_S64x64_S16x4096x64_2_0_01_1_n_n none (maximumf (addf (Host.dotGeneral dot_S16x4096x8_S8x64_S16x4096x64_2_0_01_1_n_n none (select (broadcastInDim S16x4096x8 ![0, 1, 2] bcast_S16x4096x1_S16x4096x8_0_1_2 (broadcastInDim S16x4096x1 ![0, 1] bcast_S16x4096_S16x4096x1_0_1 q)) (Host.divf (subf a0 (broadcastInDim S16x4096x8 ![0, 1, 2] bcast_S1x1x8_S16x4096x8_0_1_2 (broadcastInDim S1x1x8 ![2] bcast_S8_S1x1x8_2 mu))) (broadcastInDim S16x4096x8 ![0, 1, 2] bcast_S1x1x8_S16x4096x8_0_1_2 (broadcastInDim S1x1x8 ![2] bcast_S8_S1x1x8_2 (Host.sqrt (addf (r) (broadcastInDim S8 ![] bcast_S_S8 (constant S_ .f32 0x358637BD#32))))))) (broadcastInDim S16x4096x8 ![] bcast_S_S16x4096x8 (id (constant S_ .f32 0x00000000#32 : FVec Ideal S_ .f32)))) a2) (broadcastInDim S16x4096x64 ![0, 1, 2] bcast_S1x1x64_S16x4096x64_0_1_2 (broadcastInDim S1x1x64 ![2] bcast_S64_S1x1x64_2 a3))) (broadcastInDim S16x4096x64 ![] bcast_S_S16x4096x64 (constant S_ .f32 0x00000000#32))) a4) (broadcastInDim S16x4096x64 ![0, 1, 2] bcast_S1x1x64_S16x4096x64_0_1_2 (broadcastInDim S1x1x64 ![2] bcast_S64_S1x1x64_2 a5))) (broadcastInDim S16x4096x64 ![] bcast_S_S16x4096x64 (constant S_ .f32 0x00000000#32))) (broadcastInDim S16x4096x64 ![] bcast_S_S16x4096x64 (id (constant S_ .f32 0x00000000#32 : FVec Ideal S_ .f32)))

/-- its features, -/
def features : FVec Ideal S16x4096x192 .f32 :=
  select (broadcastInDim S16x4096x192 ![0, 1, 2] bcast_S16x4096x1_S16x4096x192_0_1_2 (broadcastInDim S16x4096x1 ![0, 1] bcast_S16x4096_S16x4096x1_0_1 q)) (concatenate S16x4096x192 2 [⟨S16x4096x64, h⟩, ⟨S16x4096x128, (broadcastInDim S16x4096x128 ![0, 1, 2] bcast_S16x1x128_S16x4096x128_0_1_2 (broadcastInDim S16x1x128 ![0, 2] bcast_S16x128_S16x1x128_0_2 (Host.reduce FloatOps.maximumf (select (broadcastInDim S16x4096x128 ![0, 1, 2] bcast_S16x4096x1_S16x4096x128_0_1_2 (broadcastInDim S16x4096x1 ![0, 1] bcast_S16x4096_S16x4096x1_0_1 q)) (maximumf (addf (Host.dotGeneral dot_S16x4096x64_S64x128_S16x4096x128_2_0_01_1_n_n none h a6) (broadcastInDim S16x4096x128 ![0, 1, 2] bcast_S1x1x128_S16x4096x128_0_1_2 (broadcastInDim S1x1x128 ![2] bcast_S128_S1x1x128_2 a7))) (broadcastInDim S16x4096x128 ![] bcast_S_S16x4096x128 (constant S_ .f32 0x00000000#32))) (broadcastInDim S16x4096x128 ![] bcast_S_S16x4096x128 (id (constant S_ .f32 0xFF800000#32 : FVec Ideal S_ .f32)))) (constant S_ .f32 0xFF800000#32) reducesTo_S16x4096x128_S16x128_d1 h_S_)))⟩] concatenates_S16x4096x64_S16x4096x128_S16x4096x192_d2) (broadcastInDim S16x4096x192 ![] bcast_S_S16x4096x192 (id (constant S_ .f32 0x00000000#32 : FVec Ideal S_ .f32)))

/-- and its scores. -/
def scores : FVec Ideal S16x4096x8 .f32 :=
  select (broadcastInDim S16x4096x8 ![0, 1, 2] bcast_S16x4096x1_S16x4096x8_0_1_2 (broadcastInDim S16x4096x1 ![0, 1] bcast_S16x4096_S16x4096x1_0_1 q)) (addf (Host.dotGeneral dot_S16x4096x192_S192x8_S16x4096x8_2_0_01_1_n_n none f a8) (broadcastInDim S16x4096x8 ![0, 1, 2] bcast_S1x1x8_S16x4096x8_0_1_2 (broadcastInDim S1x1x8 ![2] bcast_S8_S1x1x8_2 a9))) (broadcastInDim S16x4096x8 ![] bcast_S_S16x4096x8 (id (constant S_ .f32 0x00000000#32 : FVec Ideal S_ .f32)))

/-- A masked factor of a product masks the product. -/
theorem mul_select (c : BitVec 1) (v w : EReal) : Scalar.select c (v * w) 0 = Scalar.select c v 0 * w := by
  unfold Scalar.select; split
  · rfl
  · exact (zero_mul w).symm

/-- The layers' entries. -/
theorem layers_apply (b : Fin 16) (s : Fin 4096) (e : Fin 64) :
    layers q mu r a0 a2 a3 a4 a5 (ix3 b s e)
      = Scalar.select (q (ix2 b s)) (max (∑ d : Fin 64, max (∑ i : Fin 8, Scalar.select (q (ix2 b s))
          (Ideal.div (a0 (ix3 b s i) - mu (ix1 i)) (Ideal.sqrt (r (ix1 i) + Ideal.ofBits .f32 897988541#32))) (0 : EReal) * a2 (ix2 i d)
          + a3 (ix1 d)) 0 * a4 (ix2 d e) + a5 (ix1 e)) 0) 0 := by
  unfold layers
  pointwise []
  simp only [id_eq, zero_apply, mul_select]

/-- The features' entries. -/
theorem features_apply (b : Fin 16) (s : Fin 4096) (k : Fin 192) :
    features q h a6 a7 (ix3 b s k)
      = if hk : k.val < 64 then Scalar.select (q (ix2 b s)) (h (ix3 b s ⟨k.val, hk⟩)) (0 : EReal)
        else Scalar.select (q (ix2 b s)) (Finset.fold max floorVal (fun s' : Fin 4096 => Scalar.select (q (ix2 b s'))
          (max (∑ e : Fin 64, h (ix3 b s' e) * a6 (ix2 e ⟨k.val - 64, by omega⟩) + a7 (ix1 ⟨k.val - 64, by omega⟩)) 0) floorVal) Finset.univ) 0 := by
  unfold features
  pointwise []
  simp only [id_eq, zero_apply, floor_apply]
  by_cases hk : k.val < 64
  · rw [dif_pos hk, dif_pos hk]
  · rw [dif_neg hk, dif_neg hk]
    rfl

/-- The scores' entries. -/
theorem scores_apply (b : Fin 16) (s : Fin 4096) (k : Fin 8) :
    scores q f a8 a9 (ix3 b s k)
      = Scalar.select (q (ix2 b s)) (∑ x : Fin 192, f (ix3 b s x) * a8 (ix2 x k) + a9 (ix1 k)) (0 : EReal) := by
  unfold scores
  pointwise []
  simp only [id_eq, zero_apply]

/-- A maximum over the classes, from the least value on. -/
theorem class_max (v : FVec Ideal S16x4096x8 .f32) (b : Fin 16) (s : Fin 4096) :
    Host.reduce FloatOps.maximumf v (constant S_ .f32 0xFF800000#32) reducesTo_S16x4096x8_S16x4096_d2 h_S_ (ix2 b s)
      = top fun k => (v (ix3 b s k) : EReal) := by
  pointwise []
  rfl

variable (v : FVec Ideal S16x4096x8 .f32)

/-- The exponentials over any scores, -/
def exponentials : FVec Ideal S16x4096x8 .f32 := Host.exp (subf v (broadcastInDim S16x4096x8 ![0, 1, 2] bcast_S16x4096x1_S16x4096x8_0_1_2 (broadcastInDim S16x4096x1 ![0, 1] bcast_S16x4096_S16x4096x1_0_1 (maximumf (broadcastInDim S16x4096 ![] bcast_S_S16x4096 (constant S_ .f32 0xFF800000#32)) (Host.reduce FloatOps.maximumf v (constant S_ .f32 0xFF800000#32) reducesTo_S16x4096x8_S16x4096_d2 h_S_)))))

/-- and the shares of any exponentials. -/
def shares : FVec Ideal S16x4096x8 .f32 := Host.divf v (broadcastInDim S16x4096x8 ![0, 1, 2] bcast_S16x4096x1_S16x4096x8_0_1_2 (broadcastInDim S16x4096x1 ![0, 1] bcast_S16x4096_S16x4096x1_0_1 (Host.reduceAdd v (constant S_ .f32 0x00000000#32) reducesTo_S16x4096x8_S16x4096_d2 h_S_)))

/-- The largest score is at least the value the maximum starts from. -/
theorem floor_top (y : Fin 8 → EReal) : max floorVal (top y) = top y :=
  max_eq_right ((Finset.le_fold_max _).mpr (Or.inl le_rfl))

/-- The exponentials' entries. -/
theorem exponentials_apply (b : Fin 16) (s : Fin 4096) (k : Fin 8) :
    exponentials v (ix3 b s k) = Ideal.exp (v (ix3 b s k) - top fun j => (v (ix3 b s j) : EReal)) := by
  unfold exponentials
  generalize hw : Host.reduce FloatOps.maximumf v (constant S_ .f32 0xFF800000#32) reducesTo_S16x4096x8_S16x4096_d2 h_S_ = w
  have h : w (ix2 b s) = top fun j => (v (ix3 b s j) : EReal) := by rw [← hw]; exact class_max v b s
  pointwise []
  rw [h]
  show Ideal.exp ((v (ix3 b s k) : EReal) - max floorVal _) = _
  rw [floor_top]

/-- The shares' entries. -/
theorem shares_apply (b : Fin 16) (s : Fin 4096) (k : Fin 8) :
    shares v (ix3 b s k) = Ideal.div (v (ix3 b s k)) (∑ j : Fin 8, (v (ix3 b s j) : EReal)) := by
  unfold shares
  pointwise []

/-- The reference's second layer is the layers of its own statistics. -/
theorem v47_eq : res_main_v47 V0 = layers (res_main_v5 V0) (res_main_v14 V0) (Host.divf (Host.reduceAdd (mulf (mulf (res_main_v17 V0) (res_main_v17 V0)) (broadcastInDim S16x4096x8 ![0, 1, 2] bcast_S16x4096x1_S16x4096x8_0_1_2 (res_main_v7 V0))) (constant S_ .f32 0x00000000#32) reducesTo_S16x4096x8_S8_d0_1 h_S_) (broadcastInDim S8 ![] bcast_S_S8 (maximumf (res_main_v8 V0) (constant S_ .f32 0x3F800000#32)))) (V0 (Proc.devRef .tc main_arg0)) (V0 (Proc.devRef .tc main_arg2)) (V0 (Proc.devRef .tc main_arg3)) (V0 (Proc.devRef .tc main_arg4)) (V0 (Proc.devRef .tc main_arg5)) := by
  unfold res_main_v47 layers; rfl

/-- The reference's feature array. -/
def feats : FVec Ideal S16x4096x192 .f32 := features (res_main_v5 V0) (res_main_v47 V0) (V0 (Proc.devRef .tc main_arg6)) (V0 (Proc.devRef .tc main_arg7))

set_option maxRecDepth 8192 in
/-- The reference's scores are the scores of that array. -/
theorem v66_eq : res_main_v66 V0 = scores (res_main_v5 V0) (feats V0) (V0 (Proc.devRef .tc main_arg8)) (V0 (Proc.devRef .tc main_arg9)) := by
  unfold res_main_v66 scores feats features; rfl

/-- The reference's shares are those of its scores' exponentials. -/
theorem v77_eq : res_main_v77 V0 = shares (exponentials (res_main_v66 V0)) := by
  unfold res_main_v77 res_main_v73 shares exponentials; rfl

section
variable (p : Params) (μ : Fin 4096 → BitVec 1) (x : Fin 4096 → Fin 8 → EReal) (b : Fin 16) (hq : ∀ s, q (ix2 b s) = μ s)
include hq

/-- The layers over arrays that hold the model's inputs and parameters are the model's. -/
theorem layers_hid (hx : ∀ s i, Ideal.div (a0 (ix3 b s i) - mu (ix1 i)) (Ideal.sqrt (r (ix1 i) + Ideal.ofBits .f32 897988541#32)) = x s i)
    (h2 : ∀ d e, (a2 (ix2 d e) : EReal) = p.w1 d e) (h3 : ∀ e, (a3 (ix1 e) : EReal) = p.b1 e)
    (h4 : ∀ d e, (a4 (ix2 d e) : EReal) = p.w2 d e) (h5 : ∀ e, (a5 (ix1 e) : EReal) = p.b2 e) (s : Fin 4096) (e : Fin 64) :
    layers q mu r a0 a2 a3 a4 a5 (ix3 b s e) = hid p μ x s e := by
  rw [layers_apply]
  unfold hid pre hid1
  simp only [hq, hx, h2, h3, h4, h5]

/-- The features over arrays that hold the model's hidden layer and parameters are the model's. -/
theorem features_feat (hh : ∀ s e, (h (ix3 b s e) : EReal) = hid p μ x s e)
    (h6 : ∀ d e, (a6 (ix2 d e) : EReal) = p.wg d e) (h7 : ∀ e, (a7 (ix1 e) : EReal) = p.bg e) (s : Fin 4096) (k : Fin 192) :
    features q h a6 a7 (ix3 b s k) = feat p μ x s k := by
  rw [features_apply]
  unfold feat globMax glob
  simp only [hq, hh, h6, h7]
  by_cases hk : k.val < 64
  · rw [dif_pos hk, dif_pos hk]
    unfold hid Scalar.select; split <;> rfl
  · rw [dif_neg hk, dif_neg hk]

/-- The scores over arrays that hold the model's features and parameters are the model's. -/
theorem scores_logit (hf : ∀ s k, (f (ix3 b s k) : EReal) = feat p μ x s k)
    (h8 : ∀ d e, (a8 (ix2 d e) : EReal) = p.ws d e) (h9 : ∀ e, (a9 (ix1 e) : EReal) = p.bs e) (s : Fin 4096) (k : Fin 8) :
    scores q f a8 a9 (ix3 b s k) = logit p μ x s k := by
  rw [scores_apply]
  unfold logit
  simp only [hq, hf, h8, h9]

end

/-- The reference's second layer at an entry. -/
theorem v47_apply (b : Fin 16) (s : Fin 4096) (e : Fin 64) :
    res_main_v47 V0 (ix3 b s e) = hid (params V0) (msk V0 b) (normed V0 b) s e := by
  rw [v47_eq]
  exact layers_hid _ _ _ _ _ _ _ _ _ _ _ b (v5_apply V0 b) (fun s i => by rw [v14_apply, var_apply]; rfl)
    (fun _ _ => rfl) (fun _ => rfl) (fun _ _ => rfl) (fun _ => rfl) s e

/-- The reference's features at an entry. -/
theorem feats_apply (b : Fin 16) (s : Fin 4096) (k : Fin 192) :
    feats V0 (ix3 b s k) = feat (params V0) (msk V0 b) (normed V0 b) s k :=
  features_feat _ _ _ _ _ _ _ b (v5_apply V0 b) (v47_apply V0 b) (fun _ _ => rfl) (fun _ => rfl) s k

/-- The reference's scores at an entry. -/
theorem v66_apply (b : Fin 16) (s : Fin 4096) (k : Fin 8) :
    res_main_v66 V0 (ix3 b s k) = logit (params V0) (msk V0 b) (normed V0 b) s k := by
  rw [v66_eq]
  exact scores_logit _ _ _ _ _ _ _ b (v5_apply V0 b) (feats_apply V0 b) (fun _ _ => rfl) (fun _ => rfl) s k

/-- The reference's shares at an entry. -/
theorem v77_apply (b : Fin 16) (s : Fin 4096) (k : Fin 8) :
    res_main_v77 V0 (ix3 b s k) = soft (logit (params V0) (msk V0 b) (normed V0 b) s) k := by
  rw [v77_eq, shares_apply]
  simp only [exponentials_apply, v66_apply]
  rfl

end Cert.ReferenceIdeal.Value
end
-- ==== Proof.Values.Top.lean ====
/- The first of a stable sort by size: the largest value, at the first place that has it. -/
module

public import proofs.«01_k».proof.Proof.Values.Model
public import Idealize.ShloMosaic.Lib.SortFacts

@[expose] public section

noncomputable section

namespace Cert.Model

open Idealize.ShloMosaic

section
variable {ι : Type} [LinearOrder ι] (f : ι → EReal) (before : ι → ι → Bool) (hb : ∀ a b, before a b = true ↔ f b < f a)
include hb

/-- A stable sort of an increasing list by size starts with the first place of the largest value. -/
theorem stableSort_first (a : ι) (l : List ι) (hl : (a :: l).Pairwise (· < ·)) :
    ∃ h t, stableSort before (a :: l) = h :: t ∧ h ∈ a :: l ∧ ∀ k ∈ a :: l, f k ≤ f h ∧ (f k = f h → h ≤ k) := by
  induction l generalizing a with
  | nil =>
    refine ⟨a, [], rfl, List.mem_singleton_self a, fun k hk => ?_⟩
    rw [List.mem_singleton.mp hk]
    exact ⟨le_rfl, fun _ => le_rfl⟩
  | cons b l ih =>
    obtain ⟨ha, hl'⟩ := List.pairwise_cons.mp hl
    obtain ⟨h, t, e, hm, hk⟩ := ih b hl'
    have e' : stableSort before (a :: b :: l) = insertBefore before a (h :: t) := by
      rw [← e]; rfl
    by_cases hc : before h a = true
    · refine ⟨h, insertBefore before a t, ?_, List.mem_cons_of_mem a hm, fun k hk' => ?_⟩
      · rw [e', insertBefore, if_pos hc]
      · rcases List.mem_cons.mp hk' with rfl | hk'
        · exact ⟨((hb _ _).mp hc).le, fun he => absurd he ((hb _ _).mp hc).ne⟩
        · exact hk k hk'
    · have hle : f h ≤ f a := not_lt.mp fun hlt => hc ((hb _ _).mpr hlt)
      refine ⟨a, h :: t, ?_, List.mem_cons_self, fun k hk' => ?_⟩
      · rw [e', insertBefore, if_neg hc]
      · rcases List.mem_cons.mp hk' with rfl | hk'
        · exact ⟨le_rfl, fun _ => le_rfl⟩
        · exact ⟨(hk k hk').1.trans hle, fun _ => (ha k hk').le⟩

end

/-- The first place of a stable sort of eight values by size: the largest value is there, and nothing before it is as large. -/
theorem sortedFrom_zero (y : Fin 8 → EReal) (before : Fin 8 → Fin 8 → Bool) (hb : ∀ a b, before a b = true ↔ y b < y a) :
    y (sortedFrom before 0) = top y ∧ ∀ k, k < sortedFrom before 0 → ¬ top y ≤ y k := by
  have hl : List.finRange 8 = (0 : Fin 8) :: [1, 2, 3, 4, 5, 6, 7] := by decide
  obtain ⟨h, t, e, hm, hk⟩ := stableSort_first y before hb 0 [1, 2, 3, 4, 5, 6, 7] (by decide)
  have hh : sortedFrom before 0 = h := by
    have e' : sortPositions 8 before = h :: t := by unfold sortPositions; rw [hl]; exact e
    unfold sortedFrom
    simp only [List.get_eq_getElem, e']
    rfl
  have hmem : ∀ k : Fin 8, k ∈ ((0 : Fin 8) :: [1, 2, 3, 4, 5, 6, 7]) := fun k => hl ▸ List.mem_finRange k
  have htop : y h = top y := by
    apply le_antisymm
    · exact (Finset.le_fold_max _).mpr (Or.inr ⟨h, Finset.mem_univ _, le_rfl⟩)
    · refine (Finset.fold_max_le _).mpr ⟨?_, fun k _ => (hk k (hmem k)).1⟩
      have hbot : floorVal = ⊥ := by
        unfold floorVal
        simp [Ideal.ofBits, Ideal.ieee]
      rw [hbot]; exact bot_le
  rw [hh]
  refine ⟨htop, fun k hlt hle => ?_⟩
  exact absurd ((hk k (hmem k)).2 (le_antisymm (hk k (hmem k)).1 (htop ▸ hle))) (not_le.mpr hlt)

/-- The first place at which a test succeeds is the least label the test leaves. -/
theorem least_label (p : Fin 8 → Bool) (k0 : Fin 8) (h0 : p k0 = true) (hk : ∀ k, k < k0 → p k = false) :
    Finset.fold IntOp.minsi 2147483647#32 (fun j : Fin 8 => if p j then BitVec.ofNat 32 j.val else 8#32) Finset.univ
      = BitVec.ofNat 32 k0.val := by
  revert p k0
  decide +kernel

/-- So the label of the model is the place a stable sort by size starts with. -/
theorem firstTop_eq (y : Fin 8 → EReal) (k0 : Fin 8) (h0 : y k0 = top y) (hk : ∀ k, k < k0 → ¬ top y ≤ y k) :
    firstTop y = BitVec.ofNat 32 k0.val := by
  have h := least_label (fun j => decide (top y ≤ y j)) k0 (decide_eq_true h0.ge) fun k hlt => decide_eq_false (hk k hlt)
  simp only [decide_eq_true_eq] at h
  exact h

end Cert.Model
end
-- ==== Proof.Values.Labels.lean ====
/- The reference's scores and labels: the largest share and the first place that has it. -/
module

public import proofs.«01_k».proof.Proof.Values.Reference
public import proofs.«01_k».proof.Proof.Values.Top

@[expose] public section

set_option maxRecDepth 2000

noncomputable section

namespace Cert.ReferenceIdeal.Value

open Idealize.ShloMosaic Idealize.ShloMosaic.TcCoe Idealize.SL.Sem Idealize.ShloMosaic.StableHlo Cert.ReferenceIdeal Cert.ReferenceIdeal.Gen
open Cert.Model (top soft firstTop logit feat sortedFrom_zero firstTop_eq)

section
variable (v : FVec Ideal S16x4096x8 .f32) (b : Fin 16) (s : Fin 4096)

/-- Which of two places of a position's shares a sort puts first. -/
def greater (k k' : Fin 8) : Bool :=
  (FloatOps.cmpfTotal (F := Ideal) (φ := .f32) .gt (v (ix3 b s k)) (v (ix3 b s k')) : BitVec 1) == 1#1

/-- The one with the larger share. -/
theorem greater_iff (k k' : Fin 8) : greater v b s k k' = true ↔ (v (ix3 b s k') : EReal) < v (ix3 b s k) := by
  unfold greater
  show ((BitVec.ofBool (decide ((v (ix3 b s k') : EReal) < v (ix3 b s k)))) == 1#1) = true ↔ _
  by_cases h : (v (ix3 b s k') : EReal) < v (ix3 b s k)
  · rw [decide_eq_true h]; exact ⟨fun _ => h, fun _ => rfl⟩
  · rw [decide_eq_false h]; exact ⟨fun h' => absurd h' (by decide), fun h' => absurd h' h⟩

/-- The places along a position's shares. -/
theorem along_class (k : Fin 8) : (ix3 b s 0 : S16x4096x8.Idx).along 2 k = ix3 b s k := by
  funext a
  match a with
  | ⟨0, _⟩ => rfl
  | ⟨1, _⟩ => rfl
  | ⟨2, _⟩ => rfl

/-- The sort's order along a position's shares is that one. -/
theorem order_eq : (fun k k' : Fin 8 => FloatOps.cmpfTotal (F := Ideal) (φ := .f32) .gt (v ((ix3 b s 0 : S16x4096x8.Idx).along 2 k))
    (v ((ix3 b s 0 : S16x4096x8.Idx).along 2 k')) == 1#1) = greater v b s := by
  funext k k'
  rw [along_class, along_class]
  rfl

/-- Cutting the first place out of an array of shares. -/
theorem cut_first {α : Type} (w : S16x4096x8.Idx → α) (h : S16x4096x8.Slices (fun _ => 0) S16x4096x1) :
    extractStridedSlice S16x4096x1 (fun _ => 0) w h (ix3 b s 0) = w (ix3 b s 0) := by
  refine congrArg w (funext fun a => Fin.ext ?_)
  match a with
  | ⟨0, _⟩ => show 0 + b.val = b.val; omega
  | ⟨1, _⟩ => show 0 + s.val = s.val; omega
  | ⟨2, _⟩ => rfl

/-- The one greatest value is the value at the sort's first place. -/
theorem topK_value (h : S16x4096x8.Slices (fun _ => 0) S16x4096x1) :
    (Host.topK S16x4096x1 2 (FloatOps.cmpfTotal .gt) v h).1 (ix3 b s 0) = v (ix3 b s (sortedFrom (greater v b s) 0)) := by
  unfold Host.topK
  dsimp only
  rw [cut_first]
  unfold Host.sort2
  rw [dif_pos (by decide)]
  rw [← along_class b s (sortedFrom (greater v b s) 0), ← order_eq v b s]
  rfl

/-- And its label is that place. -/
theorem topK_label (h : S16x4096x8.Slices (fun _ => 0) S16x4096x1) :
    (Host.topK S16x4096x1 2 (FloatOps.cmpfTotal .gt) v h).2 (ix3 b s 0) = BitVec.ofNat 32 (sortedFrom (greater v b s) 0).val := by
  unfold Host.topK
  dsimp only
  rw [cut_first]
  unfold Host.sort2
  rw [dif_pos (by decide)]
  refine Eq.trans (b := (iotaInDim S16x4096x8 32 2 : IVec S16x4096x8 32) ((ix3 b s 0 : S16x4096x8.Idx).along 2 (sortedFrom (n := 8) (greater v b s) (0 : Fin 8)))) ?_ ?_
  · rw [← order_eq v b s]
    rfl
  · rw [along_class]
    rfl

/-- The one greatest value is the largest share. -/
theorem topK_top (h : S16x4096x8.Slices (fun _ => 0) S16x4096x1) :
    (Host.topK S16x4096x1 2 (FloatOps.cmpfTotal .gt) v h).1 (ix3 b s 0) = top fun k => (v (ix3 b s k) : EReal) := by
  rw [topK_value]
  exact (sortedFrom_zero (fun k => (v (ix3 b s k) : EReal)) (greater v b s) (greater_iff v b s)).1

/-- Its label is the first place with the largest share. -/
theorem topK_first (h : S16x4096x8.Slices (fun _ => 0) S16x4096x1) :
    (Host.topK S16x4096x1 2 (FloatOps.cmpfTotal .gt) v h).2 (ix3 b s 0) = firstTop fun k => (v (ix3 b s k) : EReal) := by
  rw [topK_label]
  have h := sortedFrom_zero (fun k => (v (ix3 b s k) : EReal)) (greater v b s) (greater_iff v b s)
  exact (firstTop_eq _ _ h.1 h.2).symm

/-- A comparison of a value with itself keeps the label. -/
theorem keep_label (a : FVec Ideal S16x4096x1 .f32) (x y : IVec S16x4096x1 32) (i : S16x4096x1.Idx) :
    select (cmpf .une a a) x y i = y i := by
  show Scalar.select (BitVec.ofBool (decide ((a i : EReal) ≠ a i))) (x i) (y i) = y i
  rw [decide_eq_false (fun h => h rfl)]
  rfl

end

variable (V0 : Valuation τ sig (Elt Ideal))

/-- The reference's third result: the largest share. -/
theorem values_apply (b : Fin 16) (s : Fin 4096) :
    res_main_values V0 (ix3 b s 0) = top (soft (logit (params V0) (msk V0 b) (normed V0 b) s)) := by
  unfold res_main_values
  rw [topK_top]
  simp only [v77_apply]

/-- The reference's label array. -/
def labels : IVec S16x4096x1 32 :=
  select (cmpf .une (res_main_values V0) (res_main_values V0)) (broadcastInDim S16x4096x1 ![] bcast_S_S16x4096x1 (id (constantI S_ 32 4294967295#32))) ((Host.topK S16x4096x1 2 (FloatOps.cmpfTotal .gt) (res_main_v77 V0) sliceFits_S16x4096x8_S16x4096x1).2)

/-- The reference's second result: the first place with the largest share. -/
theorem labels_apply (b : Fin 16) (s : Fin 4096) :
    labels V0 (ix3 b s 0) = firstTop (soft (logit (params V0) (msk V0 b) (normed V0 b) s)) := by
  unfold labels
  rw [keep_label, topK_first]
  simp only [v77_apply]

set_option maxRecDepth 8192 in
/-- The reference's run: its four results, and the arguments unchanged. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v66) = res_main_v66 (launchContents m c)
      ∧ r.2.mem ((c.tc : Thread nD τ).loc main_v79) = labels (launchContents m c)
      ∧ r.2.mem ((c.tc : Thread nD τ).loc main_values) = res_main_values (launchContents m c)
      ∧ r.2.mem ((c.tc : Thread nD τ).loc main_v60) = feats (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  unfold labels feats features
  refine (θ_run defs _ _).mono (fun _ h c => ?_) (run m ρ)
  obtain ⟨h0, h1, h2, h3, ha⟩ := h c
  exact ⟨⟨h0, h1, h2, h3⟩, ha⟩

end Cert.ReferenceIdeal.Value
end
-- ==== Proof.Values.Equation.lean ====
/- The equation: on lengths within the row, the kernel's results are the reference's. -/
module

public import proofs.«01_k».proof.Proof.Values.Results
public import proofs.«01_k».proof.Proof.Values.Labels

@[expose] public section

set_option maxRecDepth 4096

noncomputable section

namespace Cert.Equation

open Idealize.ShloMosaic Idealize.ShloMosaic.TcCoe Idealize.ShloMosaic.StableHlo
open Cert.KernelIdeal.Gen (paramsK normedK lenOf countK_eq countK normed_apply rows_apply result_logits result_labels result_scores result_feats)
open Cert.Model (Params mask maskedMean maskedSquare weightedMean weightedVar eps standard)

/-- An index of an array is its three coordinates. -/
theorem three {p q r : ℕ} (i : (⟨3, ![p, q, r]⟩ : Shape).Idx) : i = ix3 (i 0) (i 1) (i 2) := by
  funext a
  match a with
  | ⟨0, _⟩ => rfl
  | ⟨1, _⟩ => rfl
  | ⟨2, _⟩ => rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The input, entry by entry. -/
def entry (b : Fin 16) (s : Fin 4096) (d : Fin 8) : EReal :=
  m ((c.tc : Thread Cert.KernelIdeal.nD Cert.KernelIdeal.τ).loc Cert.KernelIdeal.main_arg0) (ix3 b s d)

/-- The lengths. -/
def len (b : Fin 16) : BitVec 32 := m ((c.tc : Thread Cert.KernelIdeal.nD Cert.KernelIdeal.τ).loc Cert.KernelIdeal.main_arg1) (ix1 b)

/-- The two programs start from the same arguments. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)

variable (hA : Agree m m' c)

/-- The table's entry for a batch is that batch's length. -/
theorem lenOf_eq (b : Fin 16) : lenOf m b = len m c b := by
  obtain rfl : c = 0 := Subsingleton.elim _ _
  exact congrFun (Cert.KernelIdeal.Gen.V_main_arg1 m 0) (ix1 b)

include hA

/-- The parameters agree. -/
theorem params_agree : paramsK m c = Cert.ReferenceIdeal.Value.params (launchContents m' c) := by
  obtain ⟨_, _, h2, h3, h4, h5, h6, h7, h8, h9⟩ := hA
  unfold paramsK Cert.ReferenceIdeal.Value.params
  exact (Params.mk.injEq ..).mpr ⟨funext fun d => funext fun e => (congrFun h2 (ix2 d e)).symm, funext fun e => (congrFun h3 (ix1 e)).symm,
    funext fun d => funext fun e => (congrFun h4 (ix2 d e)).symm, funext fun e => (congrFun h5 (ix1 e)).symm,
    funext fun d => funext fun e => (congrFun h6 (ix2 d e)).symm, funext fun e => (congrFun h7 (ix1 e)).symm,
    funext fun d => funext fun e => (congrFun h8 (ix2 d e)).symm, funext fun e => (congrFun h9 (ix1 e)).symm⟩

/-- The inputs agree. -/
theorem entry_agree : Cert.ReferenceIdeal.Value.inp (launchContents m' c) = entry m c := by
  funext b s d
  exact congrFun hA.1 (ix3 b s d)

/-- The masks agree. -/
theorem mask_agree : Cert.ReferenceIdeal.Value.msk (launchContents m' c) = fun b => mask (lenOf m b) := by
  funext b
  rw [lenOf_eq m c b]
  exact congrArg mask (congrFun hA.2.1 (ix1 b))

variable (h0 : ∀ b, 0 ≤ (len m c b).toInt) (h1 : ∀ b, (len m c b).toInt ≤ 4096)
include h0 h1

/-- The normalised inputs agree. -/
theorem normed_agree (b : Fin 16) : normedK m c b = Cert.ReferenceIdeal.Value.normed (launchContents m' c) b := by
  funext s d
  have hc := countK_eq (lenOf m) (fun b => by rw [lenOf_eq m c b]; exact h0 b) (fun b => by rw [lenOf_eq m c b]; exact h1 b)
  have hr : Cert.ReferenceIdeal.Value.normed (launchContents m' c) b s d
      = Ideal.div (Cert.ReferenceIdeal.Value.inp (launchContents m' c) b s d
          - weightedMean (Cert.ReferenceIdeal.Value.msk (launchContents m' c)) (fun b s => Cert.ReferenceIdeal.Value.inp (launchContents m' c) b s d)
            (max (∑ b, ∑ s, (((Cert.ReferenceIdeal.Value.msk (launchContents m' c) b s).toNat : ℝ) : EReal)) 1))
        (Ideal.sqrt (weightedVar (Cert.ReferenceIdeal.Value.msk (launchContents m' c)) (fun b s => Cert.ReferenceIdeal.Value.inp (launchContents m' c) b s d)
            (max (∑ b, ∑ s, (((Cert.ReferenceIdeal.Value.msk (launchContents m' c) b s).toNat : ℝ) : EReal)) 1) + eps)) := rfl
  rw [hr, mask_agree m m' c hA, entry_agree m m' c hA, ← hc]
  exact (normed_apply (lenOf m) (Cert.KernelIdeal.Gen.V m c Cert.KernelIdeal.main_v1) (entry m c) (fun b s d => rows_apply m c b d s) b s d).trans
    (standard (fun b => mask (lenOf m b)) (fun b s => entry m c b s d) (countK (lenOf m)) hc b s)

variable (hO : Cert.KernelIdeal.Gen.Ok m)

/-- The first results agree. -/
theorem logits_agree : Cert.ReferenceIdeal.Value.res_main_v66 (launchContents m' c)
    = Pipeline.afterTail Cert.KernelIdeal.pcfgs (fun _ => Cert.KernelIdeal.Gen.adm m hO) (Cert.KernelIdeal.Gen.dats m hO) 0
        (Cert.KernelIdeal.Gen.V0 m) [Cert.KernelIdeal.Gen.hostOps1] c Cert.KernelIdeal.main_v7 := by
  refine funext fun (i : Cert.KernelIdeal.S16x4096x8.Idx) => ?_
  obtain ⟨b, s, k, rfl⟩ : ∃ (b : Fin 16) (s : Fin 4096) (k : Fin 8), i = ix3 b s k := ⟨i 0, i 1, i 2, three i⟩
  refine (Cert.ReferenceIdeal.Value.v66_apply (launchContents m' c) b s k).trans (Eq.trans ?_ (result_logits m c hO b s k).symm)
  rw [params_agree m m' c hA, normed_agree m m' c hA h0 h1 b, congrFun (mask_agree m m' c hA) b]

/-- The second results agree. -/
theorem labels_agree : Cert.ReferenceIdeal.Value.labels (launchContents m' c)
    = Pipeline.afterTail Cert.KernelIdeal.pcfgs (fun _ => Cert.KernelIdeal.Gen.adm m hO) (Cert.KernelIdeal.Gen.dats m hO) 0
        (Cert.KernelIdeal.Gen.V0 m) [Cert.KernelIdeal.Gen.hostOps1] c Cert.KernelIdeal.main_v8 := by
  refine funext fun (i : Cert.KernelIdeal.S16x4096x1.Idx) => ?_
  obtain ⟨b, s, k, rfl⟩ : ∃ (b : Fin 16) (s : Fin 4096) (k : Fin 1), i = ix3 b s k := ⟨i 0, i 1, i 2, three i⟩
  obtain rfl : k = 0 := Subsingleton.elim _ _
  refine (Cert.ReferenceIdeal.Value.labels_apply (launchContents m' c) b s ).trans (Eq.trans ?_ (result_labels m c hO b s ).symm)
  rw [params_agree m m' c hA, normed_agree m m' c hA h0 h1 b, congrFun (mask_agree m m' c hA) b]

/-- The third results agree. -/
theorem scores_agree : Cert.ReferenceIdeal.Value.res_main_values (launchContents m' c)
    = Pipeline.afterTail Cert.KernelIdeal.pcfgs (fun _ => Cert.KernelIdeal.Gen.adm m hO) (Cert.KernelIdeal.Gen.dats m hO) 0
        (Cert.KernelIdeal.Gen.V0 m) [Cert.KernelIdeal.Gen.hostOps1] c Cert.KernelIdeal.main_v9 := by
  refine funext fun (i : Cert.KernelIdeal.S16x4096x1.Idx) => ?_
  obtain ⟨b, s, k, rfl⟩ : ∃ (b : Fin 16) (s : Fin 4096) (k : Fin 1), i = ix3 b s k := ⟨i 0, i 1, i 2, three i⟩
  obtain rfl : k = 0 := Subsingleton.elim _ _
  refine (Cert.ReferenceIdeal.Value.values_apply (launchContents m' c) b s ).trans (Eq.trans ?_ (result_scores m c hO b s ).symm)
  rw [params_agree m m' c hA, normed_agree m m' c hA h0 h1 b, congrFun (mask_agree m m' c hA) b]

/-- The fourth results agree. -/
theorem feats_agree : Cert.ReferenceIdeal.Value.feats (launchContents m' c)
    = Pipeline.afterTail Cert.KernelIdeal.pcfgs (fun _ => Cert.KernelIdeal.Gen.adm m hO) (Cert.KernelIdeal.Gen.dats m hO) 0
        (Cert.KernelIdeal.Gen.V0 m) [Cert.KernelIdeal.Gen.hostOps1] c Cert.KernelIdeal.main_v10 := by
  refine funext fun (i : Cert.KernelIdeal.S16x4096x192.Idx) => ?_
  obtain ⟨b, s, k, rfl⟩ : ∃ (b : Fin 16) (s : Fin 4096) (k : Fin 192), i = ix3 b s k := ⟨i 0, i 1, i 2, three i⟩
  refine (Cert.ReferenceIdeal.Value.feats_apply (launchContents m' c) b s k).trans (Eq.trans ?_ (result_feats m c hO b s k).symm)
  rw [params_agree m m' c hA, normed_agree m m' c hA h0 h1 b, congrFun (mask_agree m m' c hA) b]

end Cert.Equation
end
-- ==== Proof.Values.Algebraic.lean ====
/- The value claim: under `tame`, both programs run and every result of the one is the result of the other. -/
module

public import proofs.«01_k».proof.Defs
public import proofs.«01_k».proof.Proof.Values.Equation

@[expose] public section

set_option maxRecDepth 4096

noncomputable section

namespace Cert.Proof

open Idealize.ShloMosaic Idealize.ShloMosaic.TcCoe Idealize.SL.Sem

/-- The shape relations of the precondition's operations. -/
theorem facts_tame : Cert.Pre_tame.Facts := ⟨by decide⟩

/-- A word that compares as at least zero and at most the row's length is such a number. -/
theorem range_of_and (l : BitVec 32) (h : IntOp.cmpi .sge l 0#32 &&& IntOp.cmpi .sle l 4096#32 = 1#1) : 0 ≤ l.toInt ∧ l.toInt ≤ 4096 := by
  have e1 : IntOp.cmpi .sge l 0#32 = BitVec.ofBool ((0#32).sle l) := rfl
  have e2 : IntOp.cmpi .sle l 4096#32 = BitVec.ofBool (l.sle 4096#32) := rfl
  rw [e1, e2] at h
  have hb : ∀ p q : Bool, BitVec.ofBool p &&& BitVec.ofBool q = 1#1 → p = true ∧ q = true := by decide
  obtain ⟨a, b⟩ := hb _ _ h
  rw [BitVec.sle, decide_eq_true_eq] at a b
  exact ⟨a, b⟩

section
variable (m : (ℓ : Loc Cert.KernelIdeal.nD Cert.KernelIdeal.τ Cert.KernelIdeal.sig) → Buf (Elt Ideal) ℓ)
  (hP : @Cert.Pre_KernelIdeal_tame facts_tame m) (c : Dev Cert.KernelIdeal.nD)
include hP

/-- Under the precondition every length lies within the row. -/
theorem len_range (b : Fin 16) : 0 ≤ (Cert.Equation.len m c b).toInt ∧ (Cert.Equation.len m c b).toInt ≤ 4096 :=
  range_of_and _ (congrFun (hP c) (ix1 b))

end

/-- Every buffer the lines after the launch write ends as they leave it. -/
theorem kernel_run (m : (ℓ : Loc Cert.KernelIdeal.nD Cert.KernelIdeal.τ Cert.KernelIdeal.sig) → Buf (Elt Ideal) ℓ) (g : Dev Cert.KernelIdeal.nD → PrngReg)
    (hO : Cert.KernelIdeal.Gen.Ok m) :
    θ_run (Cert.KernelIdeal.defs (F := Ideal)) (onTc (τ := Cert.KernelIdeal.τ) (Cert.KernelIdeal.main (F := Ideal))) ⟨m, fun _ => 0, g⟩ fun r => ∀ c : Dev Cert.KernelIdeal.nD,
      r.2.mem ((c.tc : Thread Cert.KernelIdeal.nD Cert.KernelIdeal.τ).loc Cert.KernelIdeal.main_v7) = Pipeline.afterTail Cert.KernelIdeal.pcfgs (fun _ => Cert.KernelIdeal.Gen.adm m hO) (Cert.KernelIdeal.Gen.dats m hO) 0 (Cert.KernelIdeal.Gen.V0 m) [Cert.KernelIdeal.Gen.hostOps1] c Cert.KernelIdeal.main_v7
      ∧ r.2.mem ((c.tc : Thread Cert.KernelIdeal.nD Cert.KernelIdeal.τ).loc Cert.KernelIdeal.main_v8) = Pipeline.afterTail Cert.KernelIdeal.pcfgs (fun _ => Cert.KernelIdeal.Gen.adm m hO) (Cert.KernelIdeal.Gen.dats m hO) 0 (Cert.KernelIdeal.Gen.V0 m) [Cert.KernelIdeal.Gen.hostOps1] c Cert.KernelIdeal.main_v8
      ∧ r.2.mem ((c.tc : Thread Cert.KernelIdeal.nD Cert.KernelIdeal.τ).loc Cert.KernelIdeal.main_v9) = Pipeline.afterTail Cert.KernelIdeal.pcfgs (fun _ => Cert.KernelIdeal.Gen.adm m hO) (Cert.KernelIdeal.Gen.dats m hO) 0 (Cert.KernelIdeal.Gen.V0 m) [Cert.KernelIdeal.Gen.hostOps1] c Cert.KernelIdeal.main_v9
      ∧ r.2.mem ((c.tc : Thread Cert.KernelIdeal.nD Cert.KernelIdeal.τ).loc Cert.KernelIdeal.main_v10) = Pipeline.afterTail Cert.KernelIdeal.pcfgs (fun _ => Cert.KernelIdeal.Gen.adm m hO) (Cert.KernelIdeal.Gen.dats m hO) 0 (Cert.KernelIdeal.Gen.V0 m) [Cert.KernelIdeal.Gen.hostOps1] c Cert.KernelIdeal.main_v10 :=
  (θ_run _ _ _).mono (fun _ h c => ⟨(h c).2 _ (by decide : Cert.KernelIdeal.main_v7 ∈ Pipeline.restRefs Cert.KernelIdeal.sig Cert.KernelIdeal.spec0),
    (h c).2 _ (by decide : Cert.KernelIdeal.main_v8 ∈ Pipeline.restRefs Cert.KernelIdeal.sig Cert.KernelIdeal.spec0),
    (h c).2 _ (by decide : Cert.KernelIdeal.main_v9 ∈ Pipeline.restRefs Cert.KernelIdeal.sig Cert.KernelIdeal.spec0),
    (h c).2 _ (by decide : Cert.KernelIdeal.main_v10 ∈ Pipeline.restRefs Cert.KernelIdeal.sig Cert.KernelIdeal.spec0)⟩)
    (Cert.KernelIdeal.Gen.run_main m g hO)

/-- The value claim. -/
theorem algebraic : @Cert.algebraic_KernelIdeal_ReferenceIdeal_pre_tame Cert.KernelIdeal.Gen.facts Cert.ReferenceIdeal.Gen.facts facts_tame := by
  intro m g m' g' hP hA
  have hO : Cert.KernelIdeal.Gen.Ok m := trivial
  have h0 := fun c b => (len_range m hP c b).1
  have h1 := fun c b => (len_range m hP c b).2
  refine ⟨fun c => Pipeline.afterTail Cert.KernelIdeal.pcfgs (fun _ => Cert.KernelIdeal.Gen.adm m hO) (Cert.KernelIdeal.Gen.dats m hO) 0 (Cert.KernelIdeal.Gen.V0 m) [Cert.KernelIdeal.Gen.hostOps1] c Cert.KernelIdeal.main_v7,
    fun c => Pipeline.afterTail Cert.KernelIdeal.pcfgs (fun _ => Cert.KernelIdeal.Gen.adm m hO) (Cert.KernelIdeal.Gen.dats m hO) 0 (Cert.KernelIdeal.Gen.V0 m) [Cert.KernelIdeal.Gen.hostOps1] c Cert.KernelIdeal.main_v8,
    fun c => Pipeline.afterTail Cert.KernelIdeal.pcfgs (fun _ => Cert.KernelIdeal.Gen.adm m hO) (Cert.KernelIdeal.Gen.dats m hO) 0 (Cert.KernelIdeal.Gen.V0 m) [Cert.KernelIdeal.Gen.hostOps1] c Cert.KernelIdeal.main_v9,
    fun c => Pipeline.afterTail Cert.KernelIdeal.pcfgs (fun _ => Cert.KernelIdeal.Gen.adm m hO) (Cert.KernelIdeal.Gen.dats m hO) 0 (Cert.KernelIdeal.Gen.V0 m) [Cert.KernelIdeal.Gen.hostOps1] c Cert.KernelIdeal.main_v10, ?_, ?_⟩
  · refine (θ_run _ _ _).mono (fun _ h c => ?_) (θ_run_and (kernel_run m g hO) (Cert.KernelIdeal.Gen.unchanged m g hO))
    obtain ⟨a0, a1, a2, a3⟩ := h.1 c
    exact ⟨a0, a1, a2, a3, h.2 c⟩
  · refine (θ_run _ _ _).mono (fun _ h c => ?_) (Cert.ReferenceIdeal.Value.run_results m' g')
    obtain ⟨⟨a0, a1, a2, a3⟩, ha⟩ := h c
    exact ⟨a0.trans (Cert.Equation.logits_agree m m' c (hA c) (h0 c) (h1 c) hO),
      a1.trans (Cert.Equation.labels_agree m m' c (hA c) (h0 c) (h1 c) hO),
      a2.trans (Cert.Equation.scores_agree m m' c (hA c) (h0 c) (h1 c) hO),
      a3.trans (Cert.Equation.feats_agree m m' c (hA c) (h0 c) (h1 c) hO), ha⟩

end Cert.Proof

end
-- ==== Proof.lean ====
module

public import proofs.«01_k».proof.Defs
public import proofs.«01_k».proof.Proof.Kernel.Frame
public import proofs.«01_k».proof.Proof.KernelIdeal.Frame
public import proofs.«01_k».proof.Proof.Gen.ReferenceIdeal.Run
public import proofs.«01_k».proof.Proof.Values.Algebraic
public import Idealize.ShloMosaic.Adequacy
public import Idealize.ShloMosaic.Init

@[expose] public section

noncomputable section

namespace Cert.Proof

open Idealize.ShloMosaic Idealize.SL.Sem

/-- The kernel runs, leaves its arguments alone and ends with every counter at zero: the side condition of its table of
    lengths is empty, since no window's block depends on it. -/
theorem frame_kernel : Cert.quiescent_Kernel := fun m ρ _ => Cert.Kernel.Gen.frame m ρ trivial

/-- The same of the kernel at the ideal instance. -/
theorem frame_kernelIdeal : Cert.quiescent_KernelIdeal := fun m ρ _ => Cert.KernelIdeal.Gen.frame m ρ trivial

/-- The reference runs and leaves its arguments alone; it declares no semaphore. -/
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- Every claim of `Cert.Claim`. -/
theorem claim : Cert.Claim :=
  ⟨Cert.Kernel.Gen.facts, Cert.KernelIdeal.Gen.facts, Cert.ReferenceIdeal.Gen.facts, facts_tame, frame_kernel,
    frame_kernelIdeal, fun m ρ _ => frame_kernelIdeal m ρ trivial, frame_reference, fun m ρ _ => frame_reference m ρ trivial,
    trivial, algebraic⟩

end Cert.Proof

end
